-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x256x7x7 : Shape := ⟨5, ![2, 1024, 256, 7, 7]⟩
abbrev S2x1024 : Shape := ⟨2, ![2, 1024]⟩
abbrev S2x1024x4x2 : Shape := ⟨4, ![2, 1024, 4, 2]⟩
abbrev S12544x1024 : Shape := ⟨2, ![12544, 1024]⟩
abbrev S1024 : Shape := ⟨1, ![1024]⟩
abbrev S1024x1024 : Shape := ⟨2, ![1024, 1024]⟩
abbrev S1024x11 : Shape := ⟨2, ![1024, 11]⟩
abbrev S11 : Shape := ⟨1, ![11]⟩
abbrev S1024x5 : Shape := ⟨2, ![1024, 5]⟩
abbrev S5 : Shape := ⟨1, ![5]⟩
abbrev S2048x12544 : Shape := ⟨2, ![2048, 12544]⟩
abbrev S2x1024x8 : Shape := ⟨3, ![2, 1024, 8]⟩
abbrev S1024x16 : Shape := ⟨2, ![1024, 16]⟩
abbrev S16 : Shape := ⟨1, ![16]⟩
abbrev S1x16 : Shape := ⟨2, ![1, 16]⟩
abbrev S1x1024 : Shape := ⟨2, ![1, 1024]⟩
abbrev S2048x1024 : Shape := ⟨2, ![2048, 1024]⟩
abbrev S2048x896 : Shape := ⟨2, ![2048, 896]⟩
abbrev S896x1024 : Shape := ⟨2, ![896, 1024]⟩
abbrev S2x1x1024 : Shape := ⟨3, ![2, 1, 1024]⟩
abbrev S2x1024x32 : Shape := ⟨3, ![2, 1024, 32]⟩
abbrev S1x1x1024 : Shape := ⟨3, ![1, 1, 1024]⟩
abbrev S1x1024x8 : Shape := ⟨3, ![1, 1024, 8]⟩
abbrev S1x1024x32 : Shape := ⟨3, ![1, 1024, 32]⟩
abbrev S1024x8 : Shape := ⟨2, ![1024, 8]⟩
abbrev S8x1024 : Shape := ⟨2, ![8, 1024]⟩
abbrev S5x1024 : Shape := ⟨2, ![5, 1024]⟩
abbrev S1024x1 : Shape := ⟨2, ![1024, 1]⟩
abbrev S1024x32 : Shape := ⟨2, ![1024, 32]⟩
abbrev S2x1000x21 : Shape := ⟨3, ![2, 1000, 21]⟩

abbrev nBuf : Space → Nat
  | .hbm => 22
  | .vmem => 18
  | .smem => 0
  | _ => 0

abbrev bufTy : (tb : Table) → Fin (tcTables nBuf tb) → BufTy
  | .hbm, ⟨0, _⟩ => ⟨S2x1024x256x7x7, .f32⟩
  | .hbm, ⟨1, _⟩ => ⟨S2x1024, .f32⟩
  | .hbm, ⟨2, _⟩ => ⟨S2x1024x4x2, .f32⟩
  | .hbm, ⟨3, _⟩ => ⟨S12544x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x11, .f32⟩
  | .hbm, ⟨8, _⟩ => ⟨S11, .f32⟩
  | .hbm, ⟨9, _⟩ => ⟨S1024x5, .f32⟩
  | .hbm, ⟨10, _⟩ => ⟨S5, .f32⟩
  | .hbm, ⟨11, _⟩ => ⟨S2048x12544, .f32⟩
  | .hbm, ⟨12, _⟩ => ⟨S2x1024x8, .f32⟩
  | .hbm, ⟨13, _⟩ => ⟨S1024x16, .f32⟩
  | .hbm, ⟨14, _⟩ => ⟨S16, .f32⟩
  | .hbm, ⟨15, _⟩ => ⟨S1x16, .f32⟩
  | .hbm, ⟨16, _⟩ => ⟨S1x1024, .f32⟩
  | .hbm, ⟨17, _⟩ => ⟨S2048x1024, .f32⟩
  | .hbm, ⟨18, _⟩ => ⟨S1x1024, .f32⟩
  | .hbm, ⟨19, _⟩ => ⟨S2x1x1024, .f32⟩
  | .hbm, ⟨20, _⟩ => ⟨S2x1024x32, .f32⟩
  | .hbm, ⟨21, _⟩ => ⟨S2x1000x21, .f32⟩
  | .local _ .vmem, ⟨0, _⟩ => ⟨S2048x896, .f32⟩
  | .local _ .vmem, ⟨1, _⟩ => ⟨S2048x896, .f32⟩
  | .local _ .vmem, ⟨2, _⟩ => ⟨S896x1024, .f32⟩
  | .local _ .vmem, ⟨3, _⟩ => ⟨S896x1024, .f32⟩
  | .local _ .vmem, ⟨4, _⟩ => ⟨S1x1024, .f32⟩
  | .local _ .vmem, ⟨5, _⟩ => ⟨S2048x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x16, .f32⟩
  | .local _ .vmem, ⟨11, _⟩ => ⟨S1x16, .f32⟩
  | .local _ .vmem, ⟨12, _⟩ => ⟨S1x1x1024, .f32⟩
  | .local _ .vmem, ⟨13, _⟩ => ⟨S1x1x1024, .f32⟩
  | .local _ .vmem, ⟨14, _⟩ => ⟨S1x1024x8, .f32⟩
  | .local _ .vmem, ⟨15, _⟩ => ⟨S1x1024x8, .f32⟩
  | .local _ .vmem, ⟨16, _⟩ => ⟨S1x1024x32, .f32⟩
  | .local _ .vmem, ⟨17, _⟩ => ⟨S1x1024x32, .f32⟩
  | _, _ => ⟨S2x1024x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S896x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1024x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1024x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S2x1024x256x7x7 : Shape := ⟨5, ![2, 1024, 256, 7, 7]⟩
abbrev S2x1024 : Shape := ⟨2, ![2, 1024]⟩
abbrev S2x1024x4x2 : Shape := ⟨4, ![2, 1024, 4, 2]⟩
abbrev S12544x1024 : Shape := ⟨2, ![12544, 1024]⟩
abbrev S1024 : Shape := ⟨1, ![1024]⟩
abbrev S1024x1024 : Shape := ⟨2, ![1024, 1024]⟩
abbrev S1024x11 : Shape := ⟨2, ![1024, 11]⟩
abbrev S11 : Shape := ⟨1, ![11]⟩
abbrev S1024x5 : Shape := ⟨2, ![1024, 5]⟩
abbrev S5 : Shape := ⟨1, ![5]⟩
abbrev S2x1000 : Shape := ⟨2, ![2, 1000]⟩
abbrev S2x1024x12544 : Shape := ⟨3, ![2, 1024, 12544]⟩
abbrev S2x1000x1 : Shape := ⟨3, ![2, 1000, 1]⟩
abbrev S_ : Shape := ⟨0, ![]⟩
abbrev S1 : Shape := ⟨1, ![1]⟩
abbrev S1x1x1 : Shape := ⟨3, ![1, 1, 1]⟩
abbrev S2x1000x12544 : Shape := ⟨3, ![2, 1000, 12544]⟩
abbrev S2x1024x8 : Shape := ⟨3, ![2, 1024, 8]⟩
abbrev S2x1000x8 : Shape := ⟨3, ![2, 1000, 8]⟩
abbrev S2x1000x4x2 : Shape := ⟨4, ![2, 1000, 4, 2]⟩
abbrev S2x1000x1024 : Shape := ⟨3, ![2, 1000, 1024]⟩
abbrev S1x1x1024 : Shape := ⟨3, ![1, 1, 1024]⟩
abbrev S2x1000x11 : Shape := ⟨3, ![2, 1000, 11]⟩
abbrev S1x1x11 : Shape := ⟨3, ![1, 1, 11]⟩
abbrev S2x1000x5 : Shape := ⟨3, ![2, 1000, 5]⟩
abbrev S1x1x5 : Shape := ⟨3, ![1, 1, 5]⟩
abbrev S2x1000x2 : Shape := ⟨3, ![2, 1000, 2]⟩
abbrev S2x1000x1x2 : Shape := ⟨4, ![2, 1000, 1, 2]⟩
abbrev S2x1000x21 : Shape := ⟨3, ![2, 1000, 21]⟩

abbrev nBuf : Space → Nat
  | .hbm => 123
  | .vmem => 0
  | .smem => 0
  | _ => 0

abbrev bufTy : (tb : Table) → Fin (tcTables nBuf tb) → BufTy
  | .hbm, ⟨0, _⟩ => ⟨S2x1024x256x7x7, .f32⟩
  | .hbm, ⟨1, _⟩ => ⟨S2x1024, .f32⟩
  | .hbm, ⟨2, _⟩ => ⟨S2x1024x4x2, .f32⟩
  | .hbm, ⟨3, _⟩ => ⟨S12544x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x11, .f32⟩
  | .hbm, ⟨8, _⟩ => ⟨S11, .f32⟩
  | .hbm, ⟨9, _⟩ => ⟨S1024x5, .f32⟩
  | .hbm, ⟨10, _⟩ => ⟨S5, .f32⟩
  | .hbm, ⟨11, _⟩ => ⟨S2x1000, .f32⟩
  | .hbm, ⟨12, _⟩ => ⟨S2x1000, .i32⟩
  | .hbm, ⟨13, _⟩ => ⟨S2x1024x12544, .f32⟩
  | .hbm, ⟨14, _⟩ => ⟨S2x1000x1, .i32⟩
  | .hbm, ⟨15, _⟩ => ⟨S_, .i32⟩
  | .hbm, ⟨16, _⟩ => ⟨S2x1000x1, .i32⟩
  | .hbm, ⟨17, _⟩ => ⟨S2x1000x1, .i1⟩
  | .hbm, ⟨18, _⟩ => ⟨S_, .i32⟩
  | .hbm, ⟨19, _⟩ => ⟨S2x1000x1, .i32⟩
  | .hbm, ⟨20, _⟩ => ⟨S2x1000x1, .i32⟩
  | .hbm, ⟨21, _⟩ => ⟨S2x1000x1, .i32⟩
  | .hbm, ⟨22, _⟩ => ⟨S1, .i32⟩
  | .hbm, ⟨23, _⟩ => ⟨S_, .i32⟩
  | .hbm, ⟨24, _⟩ => ⟨S2x1000x1, .i32⟩
  | .hbm, ⟨25, _⟩ => ⟨S2x1000x1, .i1⟩
  | .hbm, ⟨26, _⟩ => ⟨S1x1x1, .i32⟩
  | .hbm, ⟨27, _⟩ => ⟨S2x1000x1, .i32⟩
  | .hbm, ⟨28, _⟩ => ⟨S2x1000x1, .i1⟩
  | .hbm, ⟨29, _⟩ => ⟨S2x1000x1, .i1⟩
  | .hbm, ⟨30, _⟩ => ⟨S_, .i1⟩
  | .hbm, ⟨31, _⟩ => ⟨S2x1000, .i1⟩
  | .hbm, ⟨32, _⟩ => ⟨S2x1000x12544, .f32⟩
  | .hbm, ⟨33, _⟩ => ⟨S2x1000x12544, .i1⟩
  | .hbm, ⟨34, _⟩ => ⟨S_, .f32⟩
  | .hbm, ⟨35, _⟩ => ⟨S2x1000x12544, .f32⟩
  | .hbm, ⟨36, _⟩ => ⟨S2x1000x12544, .f32⟩
  | .hbm, ⟨37, _⟩ => ⟨S2x1024x8, .f32⟩
  | .hbm, ⟨38, _⟩ => ⟨S2x1000x1, .i32⟩
  | .hbm, ⟨39, _⟩ => ⟨S_, .i32⟩
  | .hbm, ⟨40, _⟩ => ⟨S2x1000x1, .i32⟩
  | .hbm, ⟨41, _⟩ => ⟨S2x1000x1, .i1⟩
  | .hbm, ⟨42, _⟩ => ⟨S_, .i32⟩
  | .hbm, ⟨43, _⟩ => ⟨S2x1000x1, .i32⟩
  | .hbm, ⟨44, _⟩ => ⟨S2x1000x1, .i32⟩
  | .hbm, ⟨45, _⟩ => ⟨S2x1000x1, .i32⟩
  | .hbm, ⟨46, _⟩ => ⟨S1, .i32⟩
  | .hbm, ⟨47, _⟩ => ⟨S_, .i32⟩
  | .hbm, ⟨48, _⟩ => ⟨S2x1000x1, .i32⟩
  | .hbm, ⟨49, _⟩ => ⟨S2x1000x1, .i1⟩
  | .hbm, ⟨50, _⟩ => ⟨S1x1x1, .i32⟩
  | .hbm, ⟨51, _⟩ => ⟨S2x1000x1, .i32⟩
  | .hbm, ⟨52, _⟩ => ⟨S2x1000x1, .i1⟩
  | .hbm, ⟨53, _⟩ => ⟨S2x1000x1, .i1⟩
  | .hbm, ⟨54, _⟩ => ⟨S_, .i1⟩
  | .hbm, ⟨55, _⟩ => ⟨S2x1000, .i1⟩
  | .hbm, ⟨56, _⟩ => ⟨S2x1000x8, .f32⟩
  | .hbm, ⟨57, _⟩ => ⟨S2x1000x8, .i1⟩
  | .hbm, ⟨58, _⟩ => ⟨S_, .f32⟩
  | .hbm, ⟨59, _⟩ => ⟨S2x1000x8, .f32⟩
  | .hbm, ⟨60, _⟩ => ⟨S2x1000x8, .f32⟩
  | .hbm, ⟨61, _⟩ => ⟨S2x1000x4x2, .f32⟩
  | .hbm, ⟨62, _⟩ => ⟨S2x1000x1024, .f32⟩
  | .hbm, ⟨63, _⟩ => ⟨S1x1x1024, .f32⟩
  | .hbm, ⟨64, _⟩ => ⟨S2x1000x1024, .f32⟩
  | .hbm, ⟨65, _⟩ => ⟨S2x1000x1024, .f32⟩
  | .hbm, ⟨66, _⟩ => ⟨S_, .f32⟩
  | .hbm, ⟨67, _⟩ => ⟨S2x1000x1024, .f32⟩
  | .hbm, ⟨68, _⟩ => ⟨S2x1000x1024, .f32⟩
  | .hbm, ⟨69, _⟩ => ⟨S2x1000x1024, .f32⟩
  | .hbm, ⟨70, _⟩ => ⟨S1x1x1024, .f32⟩
  | .hbm, ⟨71, _⟩ => ⟨S2x1000x1024, .f32⟩
  | .hbm, ⟨72, _⟩ => ⟨S2x1000x1024, .f32⟩
  | .hbm, ⟨73, _⟩ => ⟨S_, .f32⟩
  | .hbm, ⟨74, _⟩ => ⟨S2x1000x1024, .f32⟩
  | .hbm, ⟨75, _⟩ => ⟨S2x1000x1024, .f32⟩
  | .hbm, ⟨76, _⟩ => ⟨S2x1000x11, .f32⟩
  | .hbm, ⟨77, _⟩ => ⟨S1x1x11, .f32⟩
  | .hbm, ⟨78, _⟩ => ⟨S2x1000x11, .f32⟩
  | .hbm, ⟨79, _⟩ => ⟨S2x1000x11, .f32⟩
  | .hbm, ⟨80, _⟩ => ⟨S2x1000x5, .f32⟩
  | .hbm, ⟨81, _⟩ => ⟨S1x1x5, .f32⟩
  | .hbm, ⟨82, _⟩ => ⟨S2x1000x5, .f32⟩
  | .hbm, ⟨83, _⟩ => ⟨S2x1000x5, .f32⟩
  | .hbm, ⟨84, _⟩ => ⟨S_, .f32⟩
  | .hbm, ⟨85, _⟩ => ⟨S2x1000x2, .f32⟩
  | .hbm, ⟨86, _⟩ => ⟨S_, .f32⟩
  | .hbm, ⟨87, _⟩ => ⟨S2x1000x2, .f32⟩
  | .hbm, ⟨88, _⟩ => ⟨S2x1000x2, .f32⟩
  | .hbm, ⟨89, _⟩ => ⟨S2x1000x1x2, .f32⟩
  | .hbm, ⟨90, _⟩ => ⟨S2x1000x2, .f32⟩
  | .hbm, ⟨91, _⟩ => ⟨S2x1000x1x2, .f32⟩
  | .hbm, ⟨92, _⟩ => ⟨S2x1000x2, .f32⟩
  | .hbm, ⟨93, _⟩ => ⟨S2x1000x2, .f32⟩
  | .hbm, ⟨94, _⟩ => ⟨S2x1000x1x2, .f32⟩
  | .hbm, ⟨95, _⟩ => ⟨S2x1000x2, .f32⟩
  | .hbm, ⟨96, _⟩ => ⟨S2x1000x1x2, .f32⟩
  | .hbm, ⟨97, _⟩ => ⟨S2x1000x2, .f32⟩
  | .hbm, ⟨98, _⟩ => ⟨S2x1000x2, .f32⟩
  | .hbm, ⟨99, _⟩ => ⟨S2x1000x2, .f32⟩
  | .hbm, ⟨100, _⟩ => ⟨S_, .f32⟩
  | .hbm, ⟨101, _⟩ => ⟨S2x1000, .f32⟩
  | .hbm, ⟨102, _⟩ => ⟨S_, .f32⟩
  | .hbm, ⟨103, _⟩ => ⟨S2x1000, .f32⟩
  | .hbm, ⟨104, _⟩ => ⟨S2x1000, .f32⟩
  | .hbm, ⟨105, _⟩ => ⟨S2x1000, .f32⟩
  | .hbm, ⟨106, _⟩ => ⟨S2x1000x2, .f32⟩
  | .hbm, ⟨107, _⟩ => ⟨S_, .f32⟩
  | .hbm, ⟨108, _⟩ => ⟨S2x1000, .f32⟩
  | .hbm, ⟨109, _⟩ => ⟨S_, .f32⟩
  | .hbm, ⟨110, _⟩ => ⟨S2x1000, .f32⟩
  | .hbm, ⟨111, _⟩ => ⟨S2x1000, .f32⟩
  | .hbm, ⟨112, _⟩ => ⟨S2x1000, .f32⟩
  | .hbm, ⟨113, _⟩ => ⟨S2x1000x1, .f32⟩
  | .hbm, ⟨114, _⟩ => ⟨S2x1000, .f32⟩
  | .hbm, ⟨115, _⟩ => ⟨S2x1000x1, .f32⟩
  | .hbm, ⟨116, _⟩ => ⟨S2x1000, .f32⟩
  | .hbm, ⟨117, _⟩ => ⟨S2x1000, .f32⟩
  | .hbm, ⟨118, _⟩ => ⟨S2x1000x1, .f32⟩
  | .hbm, ⟨119, _⟩ => ⟨S2x1000x1, .f32⟩
  | .hbm, ⟨120, _⟩ => ⟨S2x1000x1, .f32⟩
  | .hbm, ⟨121, _⟩ => ⟨S2x1000x5, .f32⟩
  | .hbm, ⟨122, _⟩ => ⟨S2x1000x21, .f32⟩
  | _, _ => ⟨S2x1024x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_values : Ref sig .tc := ⟨.hbm, 11, rfl⟩
abbrev main_indices : Ref sig .tc := ⟨.hbm, 12, rfl⟩
abbrev main_v0 : Ref sig .tc := ⟨.hbm, 13, rfl⟩
abbrev main_v1 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_c_2 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_c_2 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c_3 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_call2_cst : Ref sig .tc := ⟨.hbm, 66, rfl⟩
abbrev main_call2_v0 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_call3_cst : Ref sig .tc := ⟨.hbm, 73, rfl⟩
abbrev main_call3_v0 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst : Ref sig .tc := ⟨.hbm, 84, rfl⟩
abbrev main_v25 : Ref sig .tc := ⟨.hbm, 85, rfl⟩
abbrev main_cst_0 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_cst_1 : Ref sig .tc := ⟨.hbm, 100, rfl⟩
abbrev main_v39 : Ref sig .tc := ⟨.hbm, 101, rfl⟩
abbrev main_cst_2 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_cst_3 : Ref sig .tc := ⟨.hbm, 107, rfl⟩
abbrev main_v44 : Ref sig .tc := ⟨.hbm, 108, rfl⟩
abbrev main_cst_4 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩

abbrev nD : Nat := 1
abbrev τ : Topo := Topo.v7x

variable {F : FTy → Type} [FloatOps F]
-- ==== Proof.KernelRun.lean ====
/-
  THE IDEALIZED KERNEL'S RUN WITH ITS RESULT: every execution ends with the result array at the contents that the fifth
  boundary of @main (after both regions and the last host stretch) gives it, and with the arguments as launched.
-/
module

public import proofs.«01_k».proof.Proof.Gen.KernelIdeal.Frame

@[expose] public section

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- From any memory with zero counters, every weakly fair execution of @main terminates with the result array at the
    contents of the last boundary and every argument array unchanged. -/
theorem run : θ_run defs (onTc (τ := τ) (main (F := F))) ⟨m, fun _ => 0, ρ⟩ (fun r => ∀ c : Dev nD,
      r.2.mem ((c.tc : Thread nD τ).loc main_v10) = W5 m ρ c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelValue

end
-- ==== Proof.Spec.lean ====
/-
  THE MATHEMATICS OF ONE PROPOSAL, over the extended reals: two fully connected layers with a rectifier each, the
  two linear heads, and the five numbers that encode an oriented box by its four vertices.
-/
module

public import Idealize.ShloMosaic.PureOps.Ideal
public import Idealize.ShloMosaic.PureOps.Ideal.Laws

@[expose] public section

noncomputable section

namespace Cert.Spec

open Idealize.ShloMosaic

/-- A fully connected layer with a rectifier: `max (∑ k, x k · w k c + b c) 0`. -/
def layer {K N : Nat} (x : Fin K → EReal) (w : Fin K → Fin N → EReal) (b : Fin N → EReal) (c : Fin N) : EReal :=
  max ((∑ k : Fin K, x k * w k c) + b c) 0

/-- One entry of a linear head: `∑ k, x k · w k + b`. -/
def head {K : Nat} (x : Fin K → EReal) (w : Fin K → EReal) (b : EReal) : EReal := (∑ k : Fin K, x k * w k) + b

/-- The small positive number under the square roots. -/
def eps : EReal := Ideal.ofBits .f32 0x322BCC77#32

/-- One coordinate of a box's centre: the quarter of the four vertices' sum. -/
def centre (a b c d : EReal) : EReal := (a + b + c + d) * Ideal.ofBits .f32 0x3E800000#32

/-- The length of the edge from `(x, y)` to `(x', y')`. -/
def side (x y x' y' : EReal) : EReal :=
  Ideal.sqrt ((x' - x) * (x' - x) + (y' - y) * (y' - y) + eps)

/-- The angle of the edge from `(x, y)` to `(x', y')`. -/
def angle (x y x' y' : EReal) : EReal := Ideal.atan2 (y' - y) (x' - x)

/-- The five numbers of a box, its vertices in `v` as `x0 y0 x1 y1 x2 y2 x3 y3`. -/
def box (v : Fin 8 → EReal) (q : Fin 5) : EReal :=
  match q with
  | ⟨0, _⟩ => centre (v 0) (v 2) (v 4) (v 6)
  | ⟨1, _⟩ => centre (v 1) (v 3) (v 5) (v 7)
  | ⟨2, _⟩ => side (v 0) (v 1) (v 2) (v 3)
  | ⟨3, _⟩ => side (v 2) (v 3) (v 4) (v 5)
  | ⟨4, _⟩ => angle (v 0) (v 1) (v 2) (v 3)

end Cert.Spec

end
-- ==== Proof.Fc1.lean ====
/-
  The first call, `relu(A·W1 + b1)`, as a value.  Its grid walks the 14 column blocks of `A` (896 columns each) and the
  14 row blocks of `W1`; the output block is the whole array, zeroed at the first point, increased by one block product
  at every point, and finished (bias, relu) at the last.  So the array it leaves is `Spec.layer` of `A`'s rows.
-/
module

public import proofs.«01_k».proof.Proof.Spec
public import proofs.«01_k».proof.Proof.Gen.KernelIdeal.Frame
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.Tactic

@[expose] public section

noncomputable section

open Idealize.ShloMosaic Idealize.ShloMosaic.TcCoe Idealize.SL.Sem
open Idealize.ShloMosaic.Pipeline (Dat)
open Idealize.ShloMosaic.ValueIdx

namespace Cert.Fc1

open Cert.KernelIdeal Cert.KernelIdeal.Gen

/-- Zero offsets, in the two ways they are written. -/
theorem hz : (![0, 0] : Fin 2 → Nat) = fun _ => 0 := funext fun a => by fin_cases a <;> rfl

/-! ### What the body leaves in the output block, by the kind of grid point -/

section
variable {F : FTy → Type} [FloatOps F]

/-- A middle point: the block product is added to what the output block held. -/
theorem out_B (c : Dev nD) (i : grid0.Coords) (a1 : Memref sig .tc .vmem S2048x896 .f32) (h1 : a1.IsWhole)
    (a2 : Memref sig .tc .vmem S896x1024 .f32) (h2 : a2.IsWhole) (a3 : Memref sig .tc .vmem S1x1024 .f32) (h3 : a3.IsWhole)
    (a4 : Memref sig .tc .vmem S2048x1024 .f32) (h4 : a4.IsWhole) (hc0 : ¬cond0_0 i) (hc1 : ¬cond0_1 i)
    (x0 : Vec F S2048x896 .f32) (x1 : Vec F S896x1024 .f32) (x2 : Vec F S1x1024 .f32) (xo : Vec F S2048x1024 .f32) :
    out0_B_3 c i a1 h1 a2 h2 a3 h3 a4 h4 hc0 hc1 x0 x1 x2 xo = k0_pay2 xo x0 x1 := by
  unfold out0_B_3
  rw [View.read_writes_eq_canon _ _ _ (cover0_B_3 c i a1 h1 a2 h2 a3 h3 a4 h4 hc0 hc1 x0 x1 x2 xo)]
  unfold kernelRun0_B
  dsimp only
  rw [View.canon_unit_zero hz]
  simp only [View.readAt_eq_ld, h1.read_unread, h2.read_unread, h4.read_unread, View.ld_unit_zero (S := S2048x1024) hz,
    View.ld_unit_zero (S := S2048x896) hz, View.ld_unit_zero (S := S896x1024) hz]

/-- The first point: the block product is added to zeros. -/
theorem out_A (c : Dev nD) (i : grid0.Coords) (a1 : Memref sig .tc .vmem S2048x896 .f32) (h1 : a1.IsWhole)
    (a2 : Memref sig .tc .vmem S896x1024 .f32) (h2 : a2.IsWhole) (a3 : Memref sig .tc .vmem S1x1024 .f32) (h3 : a3.IsWhole)
    (a4 : Memref sig .tc .vmem S2048x1024 .f32) (h4 : a4.IsWhole) (hc0 : cond0_0 i) (hc1 : ¬cond0_1 i)
    (x0 : Vec F S2048x896 .f32) (x1 : Vec F S896x1024 .f32) (x2 : Vec F S1x1024 .f32) :
    out0_A_3 c i a1 h1 a2 h2 a3 h3 a4 h4 hc0 hc1 x0 x1 x2 = k0_pay2 k0_pay1 x0 x1 := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h1.read_unread, h2.read_unread,
    View.ld_unit_zero (S := S2048x896) hz, View.ld_unit_zero (S := S896x1024) hz]

/-- The last point: the block product is added, then the bias, then the negative entries are cut to zero. -/
theorem out_C (c : Dev nD) (i : grid0.Coords) (a1 : Memref sig .tc .vmem S2048x896 .f32) (h1 : a1.IsWhole)
    (a2 : Memref sig .tc .vmem S896x1024 .f32) (h2 : a2.IsWhole) (a3 : Memref sig .tc .vmem S1x1024 .f32) (h3 : a3.IsWhole)
    (a4 : Memref sig .tc .vmem S2048x1024 .f32) (h4 : a4.IsWhole) (hc0 : ¬cond0_0 i) (hc1 : cond0_1 i)
    (x0 : Vec F S2048x896 .f32) (x1 : Vec F S896x1024 .f32) (x2 : Vec F S1x1024 .f32) (xo : Vec F S2048x1024 .f32) :
    out0_C_3 c i a1 h1 a2 h2 a3 h3 a4 h4 hc0 hc1 x0 x1 x2 xo = k0_pay3 (k0_pay2 xo x0 x1) x2 := by
  unfold out0_C_3
  rw [View.read_writes_eq_canon _ _ _ (cover0_C_3 c i a1 h1 a2 h2 a3 h3 a4 h4 hc0 hc1 x0 x1 x2 xo)]
  unfold kernelRun0_C
  dsimp only
  sl_unfold_words
  rw [View.canon_cons_unit_zero (S := S2048x1024) hz, View.readCov_unit_zero (S := S2048x1024) _ hz]
  simp only [View.readAt_eq_ld, h1.read_unread, h2.read_unread, h3.read_unread, h4.read_unread,
    View.ld_unit_zero (S := S2048x1024) hz,
    View.ld_unit_zero (S := S2048x896) hz, View.ld_unit_zero (S := S896x1024) hz, View.ld_unit_zero (S := S1x1024) hz]

end

/-! ### The payloads at an index, over the extended reals -/

/-- One block product added to `v`, at a row and a column. -/
theorem pay2_apply (v : Vec Ideal S2048x1024 .f32) (x : Vec Ideal S2048x896 .f32) (w : Vec Ideal S896x1024 .f32)
    (r : Fin 2048) (q : Fin 1024) :
    k0_pay2 v x w (ix2 r q) = v (ix2 r q) + ∑ k : Fin 896, x (ix2 r k) * w (ix2 k q) := by
  unfold k0_pay2
  simp only [shapeCast_self, addf_apply]
  congr 1
  refine (Ideal.matmul_plain_apply (M := 2048) (K := 896) (N := 1024) none x w _ r q).trans ?_
  rw [show (constant S2048x1024 .f32 0x00000000#32 : FVec Ideal S2048x1024 .f32) (ix2 r q) = 0 from Ideal.ofBits_zero_f32, zero_add]

/-- The zeros the first point starts from. -/
theorem pay1_apply (j : S2048x1024.Idx) : (k0_pay1 (F := Ideal)) j = (0 : EReal) := Ideal.ofBits_zero_f32

/-- Bias and relu, at a row and a column. -/
theorem pay3_apply (v : Vec Ideal S2048x1024 .f32) (b : Vec Ideal S1x1024 .f32) (r : Fin 2048) (q : Fin 1024) :
    k0_pay3 v b (ix2 r q) = max (v (ix2 r q) + b (ix2 0 q)) (0 : EReal) := by
  unfold k0_pay3
  simp only [shapeCast_self, maximumf_apply, addf_apply, broadcastTo_1b_ab_apply, broadcast_apply]
  rw [show (Scalar.ofBits .f32 0x00000000#32 : Ideal .f32) = (0 : EReal) from Ideal.ofBits_zero_f32]

/-! ### The blocks the windows read -/

variable (V : (c : Dev nD) → (r : Ref sig .tc) → Buf (Elt Ideal) ((c : Thread nD τ).loc r)) (c : Dev nD)

/-- The left operand `A`. -/
abbrev arrA : S2048x12544.Idx → EReal := V c main_v0
/-- The weights `W1`. -/
abbrev arrW : S12544x1024.Idx → EReal := V c main_arg3
/-- The bias row. -/
abbrev arrB : S1x1024.Idx → EReal := V c main_v5

/-- At which block each window stands at a grid point. -/
theorem index0 : ∀ t : Fin grid0.N, win0_0.index t 0 = 0 ∧ win0_0.index t 1 = t.val ∧ win0_1.index t 0 = t.val
    ∧ win0_1.index t 1 = 0 ∧ win0_2.index t 0 = 0 ∧ win0_2.index t 1 = 0 ∧ win0_3.index t 0 = 0 ∧ win0_3.index t 1 = 0 := by
  decide +kernel

/-- Column block `t` of `A`, read at a row and a column. -/
theorem block_A (t : Fin cfg0.N) (r : Fin 2048) (k : Fin 896) (h : 896 * t.val + k.val < 12544) :
    (iblk0 V c 0 t : Vec Ideal S2048x896 .f32) (ix2 r k) = arrA V c (ix2 r ⟨896 * t.val + k.val, h⟩) := by
  obtain ⟨e0, e1, -⟩ := index0 t
  unfold iblk0
  rw [View.read_apply]
  show V c main_v0 _ = V c main_v0 _
  congr 1
  funext a
  apply Fin.ext
  match a with
  | ⟨0, _⟩ => show win0_0.index t 0 * 2048 + 1 * r.val = r.val; rw [e0]; omega
  | ⟨1, _⟩ => show win0_0.index t 1 * 896 + 1 * k.val = 896 * t.val + k.val; rw [e1]; omega

/-- Row block `t` of `W1`, read at a row and a column. -/
theorem block_W (t : Fin cfg0.N) (k : Fin 896) (q : Fin 1024) (h : 896 * t.val + k.val < 12544) :
    (iblk0 V c 1 t : Vec Ideal S896x1024 .f32) (ix2 k q) = arrW V c (ix2 ⟨896 * t.val + k.val, h⟩ q) := by
  obtain ⟨-, -, e0, e1, -⟩ := index0 t
  unfold iblk0
  rw [View.read_apply]
  show V c main_arg3 _ = V c main_arg3 _
  congr 1
  funext a
  apply Fin.ext
  match a with
  | ⟨0, _⟩ => show win0_1.index t 0 * 896 + 1 * k.val = 896 * t.val + k.val; rw [e0]; omega
  | ⟨1, _⟩ => show win0_1.index t 1 * 1024 + 1 * q.val = q.val; rw [e1]; omega

/-- The bias row, read at a column. -/
theorem block_b (t : Fin cfg0.N) (q : Fin 1024) :
    (iblk0 V c 2 t : Vec Ideal S1x1024 .f32) (ix2 0 q) = arrB V c (ix2 0 q) := by
  obtain ⟨-, -, -, -, e0, e1, -⟩ := index0 t
  unfold iblk0
  rw [View.read_apply]
  show V c main_v5 _ = V c main_v5 _
  congr 1
  funext a
  apply Fin.ext
  match a with
  | ⟨0, _⟩ => show win0_2.index t 0 * 1 + 1 * 0 = 0; rw [e0]
  | ⟨1, _⟩ => show win0_2.index t 1 * 1024 + 1 * q.val = q.val; rw [e1]; omega

/-! ### The accumulation -/

/-- The `j`-th term of the product at row `r` and column `q` (zero past the last). -/
def term (r : Fin 2048) (q : Fin 1024) (j : Nat) : EReal :=
  if h : j < 12544 then arrA V c (ix2 r ⟨j, h⟩)
    * arrW V c (ix2 ⟨j, h⟩ q) else 0

/-- Adding the block product of point `t` adds the next 896 terms. -/
theorem step (t : Fin cfg0.N) (r : Fin 2048) (q : Fin 1024) (v : Vec Ideal S2048x1024 .f32)
    (hv : v (ix2 r q) = ∑ j ∈ Finset.range (896 * t.val), term V c r q j) :
    k0_pay2 v (iblk0 V c 0 t) (iblk0 V c 1 t) (ix2 r q) = ∑ j ∈ Finset.range (896 * (t.val + 1)), term V c r q j := by
  have hN : cfg0.N = 14 := N_0
  have ht := t.isLt
  rw [pay2_apply, hv, show 896 * (t.val + 1) = 896 * t.val + 896 by omega, Finset.sum_range_add]
  congr 1
  rw [Finset.sum_range]
  refine Finset.sum_congr rfl fun k _ => ?_
  have hk := k.isLt
  have h : 896 * t.val + k.val < 12544 := by omega
  rw [block_A V c t r k h, block_W V c t k q h]
  unfold term
  rw [dif_pos h]

/-- After point `n`, not the last, the output block holds the first `896·(n+1)` terms' sum. -/
theorem outsAt_eq (r : Fin 2048) (q : Fin 1024) : ∀ (n : ℕ) (h : n < cfg0.N), n < 13 →
    outsAt0 V c n h (ix2 r q) = ∑ j ∈ Finset.range (896 * (n + 1)), term V c r q j
  | 0, h, _ => by
    have e := outsAt0_A V c ⟨0, h⟩ rfl (by dsimp only; omega)
    rw [out_A] at e
    refine (congrFun e _).trans (step V c ⟨0, h⟩ r q _ ?_)
    rw [pay1_apply]
    rfl
  | n + 1, h, h13 => by
    have e := outsAt0_B V c ⟨n + 1, h⟩ (by dsimp only; omega) (by dsimp only; omega)
    rw [out_B] at e
    exact (congrFun e _).trans (step V c ⟨n + 1, h⟩ r q _ (outsAt_eq r q n _ (by omega)))

/-- The array the call is to leave. -/
def result : Buf (Elt Ideal) ((c : Thread nD τ).loc main_v6) := fun i : S2048x1024.Idx =>
  Spec.layer (fun k : Fin 12544 => arrA V c (ix2 (i 0) k))
    (fun k q => arrW V c (ix2 k q))
    (fun q => arrB V c (ix2 0 q)) (i 1)

/-- After the last point the output block is that array. -/
theorem outsAt_last (t : Fin cfg0.N) (ht : t.val = 13) : outsAt0 V c t.val t.isLt = result V c := by
  have hN : cfg0.N = 14 := N_0
  funext i
  obtain ⟨r, q, rfl⟩ : ∃ (r : Fin 2048) (q : Fin 1024), i = ix2 r q := ⟨i 0, i 1, eq_ix2 i⟩
  have e := outsAt0_C V c t (by omega) (by omega)
  rw [out_C] at e
  refine (congrFun e _).trans ?_
  rw [pay3_apply, step V c t r q _ ((outsAt_eq V c r q _ _ (by omega)).trans (by
    rw [show t.val - 1 + 1 = t.val by omega])), block_b]
  have hs : (∑ j ∈ Finset.range (896 * (t.val + 1)), term V c r q j)
      = ∑ k : Fin 12544, arrA V c (ix2 r k)
          * arrW V c (ix2 k q) := by
    rw [show 896 * (t.val + 1) = 12544 by omega, Finset.sum_range]
    exact Finset.sum_congr rfl fun k _ => dif_pos k.isLt
  rw [hs]
  rfl

/-- The one write-back, at the last point, writes that array: its one block is the array. -/
theorem flushed_eq (t : Fin cfg0.N) (hf : (cfg0.win 3).flush t = true) :
    (dat0 V c).flushed 3 t = ((cfg0.win 3).blk t).view.read (Elt Ideal) (result V c) := by
  have hN : cfg0.N = 14 := N_0
  have h13 : t.val = 13 := by have := (flush0_3 t).mp hf; have := t.isLt; omega
  obtain ⟨-, -, -, -, -, -, e0, e1⟩ := index0 t
  show (cfg0.win 3).cut (grid0.coords t) ((dat0 V c).after 3 t) = _
  rw [after0_3, outsAt_last V c t h13]
  have hz' : (fun a => win0_3.index t a * main_v6.ty.shape.size a) = fun _ => 0 := funext fun a => by
    match a with
    | ⟨0, _⟩ => show win0_3.index t 0 * _ = 0; rw [e0, Nat.zero_mul]
    | ⟨1, _⟩ => show win0_3.index t 1 * _ = 0; rw [e1, Nat.zero_mul]
  exact (Memref.read_access_unit_zero (Elt Ideal) main_v6 hz' (fun a => by rw [congrFun hz' a]; simp) (result V c)).symm

/-- So the call leaves that array. -/
theorem final : (dat0 V c).arrAt 3 cfg0.N = result V c :=
  (dat0 V c).arrAt_eq_of_cover 3 (result V c) (flushed_eq V c) fun i => by
    have hN : cfg0.N = 14 := N_0
    refine ⟨⟨13, by omega⟩, (flush0_3 _).mpr rfl, ?_⟩
    generalize (⟨13, _⟩ : Fin cfg0.N) = t
    obtain ⟨-, -, -, -, -, -, e0, e1⟩ := index0 t
    show i ∈ ((View.whole main_v6).slice (win0_3.rect t)).set
    rw [View.set_slice_whole, Rect.mem_set_unit]
    intro a
    have h0 : (i 0 : Nat) < 2048 := (i 0).isLt
    have h1 : (i 1 : Nat) < 1024 := (i 1).isLt
    match a with
    | ⟨0, _⟩ => show win0_3.index t 0 * 2048 ≤ (i 0 : Nat) ∧ (i 0 : Nat) < win0_3.index t 0 * 2048 + 2048
                rw [e0]; omega
    | ⟨1, _⟩ => show win0_3.index t 1 * 1024 ≤ (i 1 : Nat) ∧ (i 1 : Nat) < win0_3.index t 1 * 1024 + 1024
                rw [e1]; omega

end Cert.Fc1
-- ==== Proof.Rank.lean ====
/-
  RANKS AND THE STABLE SORT. For keys in a linear order, "position `j` is before position `i`" means that `j` has the
  greater key, or the same key at a lower position. The rank of a position is the number of positions before it. The
  stable descending sort puts at place `r` exactly the position whose rank is `r`.
-/
module

public import Idealize.ShloMosaic.Lib.SortPrefix

@[expose] public section

noncomputable section

namespace Cert.Rank

open Idealize.ShloMosaic

variable {κ : Type} [LinearOrder κ] {n : Nat}

/-- Position `j` is before position `i`: a greater key, or an equal key at a lower position. -/
def before (key : Fin n → κ) (j i : Fin n) : Bool :=
  decide (key i < key j) || (decide (key j = key i) && decide (j < i))

/-- The number of positions before `i`. -/
def rank (key : Fin n → κ) (i : Fin n) : Nat := (Finset.univ.filter fun j => before key j i = true).card

/-- The position that the stable descending sort of the keys puts at place `r`. -/
def pos (key : Fin n → κ) (r : Fin n) : Fin n := sortedFrom (fun j i => decide (key i < key j)) r

/-- "Before" is a strict total order on the positions. -/
theorem before_strict (key : Fin n → κ) : StrictTotalBefore (before key) :=
  StrictTotalBefore.of_key_then_position (fun a b : κ => decide (b < a)) key
    (fun a => by simp) (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- Sorting positions listed in increasing order by the key alone, keeping ties in order, is sorting them by "before". -/
theorem stableSort_before (key : Fin n → κ) (l : List (Fin n)) (hl : l.Pairwise (· < ·)) :
    stableSort (fun j i => decide (key i < key j)) l = stableSort (before key) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hab : a < b := hl.1 b ((perm_stableSort _ l).mem_iff.mp hb)
    have hn : ¬ b < a := not_lt.mpr hab.le
    simp [before, hn]

/-- The sort's position at place `r`, by "before". -/
theorem pos_eq (key : Fin n → κ) (r : Fin n) : pos key r = sortedFrom (before key) r := by
  have h : sortPositions n (fun j i => decide (key i < key j)) = sortPositions n (before key) :=
    stableSort_before key (List.finRange n) (List.pairwise_lt_finRange n)
  have hget : ∀ (l l' : List (Fin n)) (hl : n = l.length) (hl' : n = l'.length), l = l' →
      l.get (r.cast hl) = l'.get (r.cast hl') := by
    rintro l _ hl hl' rfl; rfl
  exact hget _ _ _ _ h

/-- An earlier place of the sort holds a position that is before a later place's. -/
theorem before_pos_iff (key : Fin n → κ) (q r : Fin n) : before key (pos key q) (pos key r) = true ↔ q < r := by
  have hB := before_strict key
  have key_lt : ∀ a b : Fin n, a < b → before key (sortedFrom (before key) a) (sortedFrom (before key) b) = true := by
    intro a b hab
    have hs := hB.sorted_stableSort (List.finRange n)
    have hne : sortedFrom (before key) a ≠ sortedFrom (before key) b := fun e =>
      (ne_of_lt hab) (sortedFrom_injective _ e)
    have hf : before key (sortedFrom (before key) b) (sortedFrom (before key) a) = false := by
      have := List.pairwise_iff_getElem.mp hs a.val b.val
        (by have := length_sortPositions n (before key); unfold sortPositions at this; omega)
        (by have := length_sortPositions n (before key); unfold sortPositions at this; omega) hab
      exact this
    rcases hB.total _ _ hne with h | h
    · exact h
    · rw [h] at hf; exact absurd hf (by decide)
  rw [pos_eq, pos_eq]
  constructor
  · intro h
    by_contra hn
    rcases lt_or_eq_of_le (not_lt.mp hn) with h' | h'
    · have := hB.asymm _ _ h
      rw [key_lt _ _ h'] at this; exact absurd this (by decide)
    · subst h'; rw [hB.irrefl] at h; exact absurd h (by decide)
  · exact key_lt q r

/-- The sort's places are a permutation of the positions: no position twice. -/
theorem pos_injective (key : Fin n → κ) : Function.Injective (pos key) := sortedFrom_injective _

/-- Every position has a place in the sort. -/
theorem pos_surjective (key : Fin n → κ) : Function.Surjective (pos key) := sortedFrom_surjective _

/-- The rank of the position at place `r` is `r`. -/
theorem rank_pos (key : Fin n → κ) (r : Fin n) : rank key (pos key r) = r.val := by
  have h : (Finset.univ.filter fun j => before key j (pos key r) = true) = (Finset.univ.filter fun q => q < r).image (pos key) := by
    ext j
    obtain ⟨q, rfl⟩ := pos_surjective key j
    simp only [Finset.mem_filter, Finset.mem_univ, true_and, Finset.mem_image, before_pos_iff]
    exact ⟨fun h => ⟨q, h, rfl⟩, fun ⟨q', h, e⟩ => pos_injective key e ▸ h⟩
  unfold rank
  rw [h, Finset.card_image_of_injective _ (pos_injective key)]
  rw [show (Finset.univ.filter fun q : Fin n => q < r) = Finset.Iio r by ext q; simp]
  simp

/-- Position `i` has rank `r` exactly when it is the one at place `r` of the sort. -/
theorem rank_eq_iff (key : Fin n → κ) (i r : Fin n) : rank key i = r.val ↔ i = pos key r := by
  obtain ⟨q, rfl⟩ := pos_surjective key i
  rw [rank_pos]
  exact ⟨fun h => by rw [Fin.ext h], fun h => by rw [pos_injective key h]⟩

/-- A rank is below the number of positions. -/
theorem rank_lt (key : Fin n → κ) (i : Fin n) : rank key i < n := by
  obtain ⟨q, rfl⟩ := pos_surjective key i
  rw [rank_pos]; exact q.isLt

end Cert.Rank

end
-- ==== Proof.Select.lean ====
/-
  The ordering part of the second call, at one batch element.  The kernel counts, for every proposal `i`, the proposals
  that come before it (a larger score, or the same score at an earlier position), and compares the count with every
  place `r`.  So the matrix it multiplies with has a one at `(r, i)` exactly when the stable descending sort of the
  scores puts proposal `i` at place `r`, and the product with it reads the sorted row.
-/
module

public import proofs.«01_k».proof.Proof.Rank
public import proofs.«01_k».proof.Proof.Gen.KernelIdeal.Skeleton
public import Idealize.ShloMosaic.Lib.ValueIdx
public import Idealize.ShloMosaic.Lib.ValueLayout
public import Idealize.ShloMosaic.Lib.IndicatorCount
public import Idealize.ShloMosaic.Lib.WordCmp

@[expose] public section

noncomputable section

open Idealize.ShloMosaic
open Idealize.ShloMosaic.ValueIdx

namespace Cert.Select

open Cert.KernelIdeal Cert.KernelIdeal.Gen

/-- A column repeated along the rows reads, at `(p, c)`, the column at `p`. -/
theorem broadcastTo_column_apply {α : Type} (v : S1024x1.Idx → α) (h : S1024x1.Broadcasts S1024x1024) (p c : Fin 1024) :
    broadcastTo S1024x1024 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- Summing the bits of a matrix down its columns counts, in every column, the ones. -/
theorem count_apply (p : IVec S1024x1024 1) (h : 1 < 32) (hr : S1024x1024.Reduces [0] S1024) (ha : (0#32 : BitVec 32) = IKind.add.neutral)
    (i : Fin 1024) :
    multiReductionI .add [0] S1024 (extui 32 p h) 0#32 hr ha (ix1 i)
      = BitVec.ofNat 32 (Finset.univ.filter fun j : Fin 1024 => p (ix2 j i) = 1#1).card := by
  have hd : ∀ j q : Fin 1024, hr.drop (ix2 j q) = ix1 i ↔ q = i := by
    intro j q
    have e : (hr.drop (ix2 j q) 0 : Nat) = q.val := Shape.Reduces.drop_apply_val_of_eq hr (ix2 j q) 0 1
    constructor
    · intro hk
      rw [hk] at e
      exact Fin.ext e.symm
    · rintro rfl
      rw [eq_ix1 (hr.drop (ix2 j q))]
      exact congrArg ix1 (Fin.ext e)
  rw [multiReductionI_eq_fold]
  refine (IndicatorCount.fold_addi_setWidth_eq_card (w := 32) p _).trans ?_
  congr 1
  refine Finset.card_nbij' (fun k => k 0) (fun j => ix2 j i) ?_ ?_ ?_ ?_
  · intro k hk
    obtain ⟨a, q, rfl⟩ : ∃ a q : Fin 1024, k = ix2 a q := ⟨k 0, k 1, eq_ix2 k⟩
    simp only [Finset.coe_filter, Finset.mem_filter, Finset.mem_univ, true_and, Set.mem_setOf_eq, hd] at hk ⊢
    obtain ⟨rfl, h2⟩ := hk
    exact h2
  · intro j hj
    simp only [Finset.coe_filter, Finset.mem_filter, Finset.mem_univ, true_and, Set.mem_setOf_eq, hd] at hj ⊢
    exact hj
  · intro k hk
    obtain ⟨a, q, rfl⟩ : ∃ a q : Fin 1024, k = ix2 a q := ⟨k 0, k 1, eq_ix2 k⟩
    simp only [Finset.coe_filter, Finset.mem_filter, Finset.mem_univ, true_and, Set.mem_setOf_eq, hd] at hk
    obtain ⟨rfl, h2⟩ := hk
    rfl
  · intro j hj
    rfl

/-- The bit "`j` comes before `i`", as the kernel computes it from the two scores and the two positions. -/
theorem bit_eq_one_iff (key : Fin 1024 → EReal) (j i : Fin 1024) :
    IntOp.ori (FloatOps.cmpf (F := Ideal) (φ := .f32) .ogt (key j) (key i))
      (IntOp.andi (FloatOps.cmpf (F := Ideal) (φ := .f32) .oeq (key j) (key i))
        (IntOp.cmpi .slt (BitVec.ofNat 32 j.val) (BitVec.ofNat 32 i.val))) = 1#1
    ↔ Rank.before key j i = true := by
  have hj := j.isLt
  have hi := i.isLt
  have e1 : FloatOps.cmpf (F := Ideal) (φ := .f32) .ogt (key j) (key i) = BitVec.ofBool (decide (key i < key j)) := rfl
  have e2 : FloatOps.cmpf (F := Ideal) (φ := .f32) .oeq (key j) (key i) = BitVec.ofBool (decide (key j = key i)) := rfl
  have e3 : IntOp.cmpi .slt (BitVec.ofNat 32 j.val) (BitVec.ofNat 32 i.val) = BitVec.ofBool (decide (j < i)) := by
    rw [WordCmp.cmpi_slt_ofNat (by omega) (by omega)]
    rfl
  rw [e1, e2, e3]
  unfold Rank.before
  generalize decide (key i < key j) = a
  generalize decide (key j = key i) = b
  generalize decide (j < i) = d
  revert a b d
  decide

/-- Multiplying with the row that has its one one at `p` reads entry `p`. -/
theorem sum_indicator (p : Fin 1024) (x : Fin 1024 → EReal) (s : Fin 1024 → EReal) (hs : ∀ i, s i = if i = p then 1 else 0) :
    ∑ i : Fin 1024, s i * x i = x p := by
  rw [Finset.sum_eq_single p]
  · rw [hs, if_pos rfl, one_mul]
  · intro i _ hi
    rw [hs, if_neg hi, zero_mul]
  · intro h
    exact absurd (Finset.mem_univ p) h

/-- The comparison of a count with a place, as a number: one if the sort puts `i` at place `r`, else zero. -/
theorem indicator (key : Fin 1024 → EReal) (r i : Fin 1024) :
    (FloatOps.sitofp .f32 ((IntOp.cmpi .eq (BitVec.ofNat 32 (Rank.rank key i)) (BitVec.ofNat 32 r.val)).setWidth 32) : Ideal .f32)
      = (if i = Rank.pos key r then 1 else 0 : EReal) := by
  have hr := r.isLt
  have hk := Rank.rank_lt key i
  have e : IntOp.cmpi .eq (BitVec.ofNat 32 (Rank.rank key i)) (BitVec.ofNat 32 r.val)
      = BitVec.ofBool (decide (i = Rank.pos key r)) := by
    rw [← decide_eq_decide.mpr (Rank.rank_eq_iff key i r)]
    show BitVec.ofBool (BitVec.ofNat 32 (Rank.rank key i) == BitVec.ofNat 32 r.val) = _
    congr 1
    rw [Bool.eq_iff_iff, beq_iff_eq, decide_eq_true_eq, ← BitVec.toNat_inj, BitVec.toNat_ofNat, BitVec.toNat_ofNat,
      Nat.mod_eq_of_lt (by omega), Nat.mod_eq_of_lt (by omega)]
  rw [e]
  by_cases h : i = Rank.pos key r
  · rw [if_pos h, decide_eq_true h]
    show (((1 : Int) : ℝ) : EReal) = 1
    norm_num
  · rw [if_neg h, decide_eq_false h]
    show (((0 : Int) : ℝ) : EReal) = 0
    norm_num

end Cert.Select
-- ==== Proof.Epi.lean ====
/-
  What the second call computes on the blocks of one batch element: the second hidden layer and the head of every
  proposal, the five numbers of every proposal's box, and the two products that read them in the order of the scores.
-/
module

public import proofs.«01_k».proof.Proof.Spec
public import proofs.«01_k».proof.Proof.Select
public import Idealize.ShloMosaic.Lib.Pipeline.Value
public import Idealize.ShloMosaic.Lib.MatmulPlain

@[expose] public section

noncomputable section

open Idealize.ShloMosaic
open Idealize.ShloMosaic.ValueIdx

namespace Cert.Epi

open Cert.KernelIdeal Cert.KernelIdeal.Gen

/-- The head of proposal `i` at column `c`: the second hidden layer, then the linear head. -/
def headAt (x1 : Vec Ideal S1024x1024 .f32) (w2 : Vec Ideal S1024x1024 .f32) (b2 : Vec Ideal S1x1024 .f32)
    (wh : Vec Ideal S1024x16 .f32) (bh : Vec Ideal S1x16 .f32) (i : Fin 1024) (c : Fin 16) : EReal :=
  Spec.head (Spec.layer (fun k : Fin 1024 => x1 (ix2 i k)) (fun k q => w2 (ix2 k q)) (fun q : Fin 1024 => b2 (ix2 0 q)))
    (fun q => wh (ix2 q c)) (bh (ix2 0 c))

/-- The head as the body computes it. -/
theorem pay2_apply (x1 : Vec Ideal S1024x1024 .f32) (w2 : Vec Ideal S1024x1024 .f32) (b2 : Vec Ideal S1x1024 .f32)
    (wh : Vec Ideal S1024x16 .f32) (bh : Vec Ideal S1x16 .f32) (i : Fin 1024) (c : Fin 16) :
    k1_pay2 x1 w2 b2 wh bh (ix2 i c) = headAt x1 w2 b2 wh bh i c := by
  unfold k1_pay2 headAt Spec.head
  simp only [shapeCast_self, addf_apply, broadcastTo_1b_ab_apply]
  congr 1
  refine (Ideal.matmul_plain_apply (M := 1024) (K := 1024) (N := 16) _ _ _ _ i c).trans ?_
  rw [constant_apply, Ideal.ofBits_zero_f32, zero_add]
  refine Finset.sum_congr rfl fun q _ => congrArg (· * wh (ix2 q c)) ?_
  unfold Spec.layer
  simp only [maximumf_apply, addf_apply, broadcastTo_1b_ab_apply, broadcast_apply]
  refine congrArg₂ max (congrArg (· + b2 (ix2 0 q)) ?_) Ideal.ofBits_zero_f32
  refine (Ideal.matmul_plain_apply (M := 1024) (K := 1024) (N := 1024) _ _ _ _ i q).trans ?_
  rw [constant_apply, Ideal.ofBits_zero_f32, zero_add]

/-- Vertex coordinate `d` of proposal `i`. -/
theorem pay3_apply (p : Vec Ideal S1x1024x8 .f32) (d : Fin 8) (i : Fin 1024) :
    k1_pay3 p (ix2 d i) = p (ix3 0 i d) := by
  unfold k1_pay3
  dsimp only
  rw [transpose_ix2_apply, shapeCast_1ab_ab_apply]

/-- One row of the vertex coordinates. -/
theorem row_apply (p : Vec Ideal S1x1024x8 .f32) (o : Nat) (h : S8x1024.Slices ![o, 0] S1x1024) (d : Fin 8) (hd : d.val = o)
    (i : Fin 1024) : extractStridedSlice S1x1024 ![o, 0] (k1_pay3 p) h (ix2 0 i) = p (ix3 0 i d) :=
  (slice2_axis0_apply o (k1_pay3 p) h (0 : Fin 1) i d (by simpa using hd)).trans (pay3_apply p d i)

/-- The first number of a box: the centre's horizontal coordinate. -/
theorem pay10_apply (p : Vec Ideal S1x1024x8 .f32) (i : Fin 1024) :
    k1_pay10 p (ix2 0 i) = Spec.box (fun d => p (ix3 0 i d)) 0 := by
  unfold k1_pay10 k1_pay4 k1_pay6 k1_pay8
  simp only [mulf_apply, addf_apply, broadcast_apply]
  rw [row_apply p 0 _ 0 rfl, row_apply p 2 _ 2 rfl, row_apply p 4 _ 4 rfl, row_apply p 6 _ 6 rfl]
  rfl

/-- The second: the centre's vertical coordinate. -/
theorem pay11_apply (p : Vec Ideal S1x1024x8 .f32) (i : Fin 1024) :
    k1_pay11 p (ix2 0 i) = Spec.box (fun d => p (ix3 0 i d)) 1 := by
  unfold k1_pay11 k1_pay5 k1_pay7 k1_pay9
  simp only [mulf_apply, addf_apply, broadcast_apply]
  rw [row_apply p 1 _ 1 rfl, row_apply p 3 _ 3 rfl, row_apply p 5 _ 5 rfl, row_apply p 7 _ 7 rfl]
  rfl

/-- The horizontal difference along the first edge. -/
theorem pay12_apply (p : Vec Ideal S1x1024x8 .f32) (i : Fin 1024) :
    k1_pay12 p (ix2 0 i) = p (ix3 0 i 2) - p (ix3 0 i 0) := by
  unfold k1_pay12 k1_pay6 k1_pay4
  simp only [subf_apply]
  rw [row_apply p 0 _ 0 rfl, row_apply p 2 _ 2 rfl]

/-- The vertical difference along the first edge. -/
theorem pay13_apply (p : Vec Ideal S1x1024x8 .f32) (i : Fin 1024) :
    k1_pay13 p (ix2 0 i) = p (ix3 0 i 3) - p (ix3 0 i 1) := by
  unfold k1_pay13 k1_pay7 k1_pay5
  simp only [subf_apply]
  rw [row_apply p 1 _ 1 rfl, row_apply p 3 _ 3 rfl]

/-- The horizontal difference along the second edge. -/
theorem pay14_apply (p : Vec Ideal S1x1024x8 .f32) (i : Fin 1024) :
    k1_pay14 p (ix2 0 i) = p (ix3 0 i 4) - p (ix3 0 i 2) := by
  unfold k1_pay14 k1_pay8 k1_pay6
  simp only [subf_apply]
  rw [row_apply p 4 _ 4 rfl, row_apply p 2 _ 2 rfl]

/-- Five rows of 1024 numbers put under one another: row `q` of the result is the `q`-th. -/
theorem rows_apply (x0 x1 x2 x3 x4 : S1x1024.Idx → EReal)
    (h : Shape.Concatenates [S1x1024, S1x1024, S1x1024, S1x1024, S1x1024] S5x1024 0) (q : Fin 5) (i : Fin 1024) :
    concatenate S5x1024 0 [⟨S1x1024, x0⟩, ⟨S1x1024, x1⟩, ⟨S1x1024, x2⟩, ⟨S1x1024, x3⟩, ⟨S1x1024, x4⟩] h (ix2 q i)
      = (match q with | ⟨0, _⟩ => x0 | ⟨1, _⟩ => x1 | ⟨2, _⟩ => x2 | ⟨3, _⟩ => x3 | ⟨4, _⟩ => x4) (ix2 0 i) := by
  have off : ∀ (q : Fin 5) (b : Fin 2), b.cast rfl ≠ (0 : Fin 2) →
      ((ix2 (0 : Fin 1) i : S1x1024.Idx) b).val = ((ix2 q i : S5x1024.Idx) (b.cast rfl)).val := by
    intro q b hb
    match b with
    | ⟨0, _⟩ => exact absurd rfl hb
    | ⟨1, _⟩ => rfl
  have len : ∀ k : Fin 5, k.val < [(⟨S1x1024, x0⟩ : (s : Shape) × (s.Idx → EReal)), ⟨S1x1024, x1⟩, ⟨S1x1024, x2⟩, ⟨S1x1024, x3⟩, ⟨S1x1024, x4⟩].length :=
    fun k => k.isLt
  match q with
  | ⟨0, _⟩ => exact concatenate_apply_piece (t := S5x1024) 0 _ _ (ix2 (0 : Fin 5) i) 0 (len 0) S1x1024 x0 rfl rfl 0 rfl (ix2 0 i) (off _) rfl
  | ⟨1, _⟩ => exact concatenate_apply_piece (t := S5x1024) 0 _ _ (ix2 (1 : Fin 5) i) 1 (len 1) S1x1024 x1 rfl rfl 1 rfl (ix2 0 i) (off _) rfl
  | ⟨2, _⟩ => exact concatenate_apply_piece (t := S5x1024) 0 _ _ (ix2 (2 : Fin 5) i) 2 (len 2) S1x1024 x2 rfl rfl 2 rfl (ix2 0 i) (off _) rfl
  | ⟨3, _⟩ => exact concatenate_apply_piece (t := S5x1024) 0 _ _ (ix2 (3 : Fin 5) i) 3 (len 3) S1x1024 x3 rfl rfl 3 rfl (ix2 0 i) (off _) rfl
  | ⟨4, _⟩ => exact concatenate_apply_piece (t := S5x1024) 0 _ _ (ix2 (4 : Fin 5) i) 4 (len 4) S1x1024 x4 rfl rfl 4 rfl (ix2 0 i) (off _) rfl

/-- The block's three column groups: columns 0 to 15 are the first's … -/
theorem cols_first (x : S1024x16.Idx → EReal) (y : S1024x5.Idx → EReal) (z : S1024x11.Idx → EReal)
    (h : Shape.Concatenates [S1024x16, S1024x5, S1024x11] S1024x32 1) (r : Fin 1024) (c : Fin 32) (hc : c.val < 16) :
    concatenate S1024x32 1 [⟨S1024x16, x⟩, ⟨S1024x5, y⟩, ⟨S1024x11, z⟩] h (ix2 r c) = x (ix2 r ⟨c.val, hc⟩) := by
  have len : 0 < [(⟨S1024x16, x⟩ : (s : Shape) × (s.Idx → EReal)), ⟨S1024x5, y⟩, ⟨S1024x11, z⟩].length := Nat.succ_pos _
  exact concatenate_apply_piece (t := S1024x32) 1 _ _ (ix2 r c) 0 len S1024x16 x rfl rfl 0 rfl (ix2 r ⟨c.val, hc⟩) (fun b hb => by
    match b with
    | ⟨0, _⟩ => rfl
    | ⟨1, _⟩ => exact absurd rfl hb) (Nat.zero_add _)

/-- … and columns 16 to 20 are the second's. -/
theorem cols_second (x : S1024x16.Idx → EReal) (y : S1024x5.Idx → EReal) (z : S1024x11.Idx → EReal)
    (h : Shape.Concatenates [S1024x16, S1024x5, S1024x11] S1024x32 1) (r : Fin 1024) (c : Fin 32) (q : Fin 5)
    (hc : c.val = 16 + q.val) :
    concatenate S1024x32 1 [⟨S1024x16, x⟩, ⟨S1024x5, y⟩, ⟨S1024x11, z⟩] h (ix2 r c) = y (ix2 r q) := by
  have len : 1 < [(⟨S1024x16, x⟩ : (s : Shape) × (s.Idx → EReal)), ⟨S1024x5, y⟩, ⟨S1024x11, z⟩].length :=
    Nat.succ_lt_succ (Nat.succ_pos _)
  exact concatenate_apply_piece (t := S1024x32) 1 _ _ (ix2 r c) 1 len S1024x5 y rfl rfl 16 rfl (ix2 r q) (fun b hb => by
    match b with
    | ⟨0, _⟩ => rfl
    | ⟨1, _⟩ => exact absurd rfl hb) hc.symm

/-- The key the proposals are ordered by: the scores of this batch element. -/
abbrev key (s : Vec Ideal S1x1x1024 .f32) (i : Fin 1024) : EReal := s (ix3 0 0 i)

/-- The bits "`j` comes before `i`" of one batch element. -/
def beats (s : Vec Ideal S1x1x1024 .f32) : IVec S1024x1024 1 :=
  let row : FVec Ideal S1x1024 .f32 := shapeCast S1x1024 s shapeCasts_S1x1x1024_S1x1024
  let col : FVec Ideal S1024x1 .f32 := transpose S1024x1 [1, 0] row transposes_S1x1024_p1_0_S1024x1
  ori (cmpf .ogt (broadcastTo S1024x1024 col broadcasts_S1024x1_S1024x1024) (broadcastTo S1024x1024 row broadcasts_S1x1024_S1024x1024))
    (andi (cmpf .oeq (broadcastTo S1024x1024 col broadcasts_S1024x1_S1024x1024) (broadcastTo S1024x1024 row broadcasts_S1x1024_S1024x1024))
      (cmpi .slt (iota .tc S1024x1024 32 [0] iota_S1024x1024_d0_w32) (iota .tc S1024x1024 32 [1] iota_S1024x1024_d1_w32)))

/-- The matrix of zeros and ones that puts the proposals in order. -/
def sel (s : Vec Ideal S1x1x1024 .f32) : FVec Ideal S1024x1024 .f32 :=
  sitofp .f32 (extui 32 (cmpi .eq (broadcastTo S1024x1024 (shapeCast S1x1024
    (multiReductionI .add [0] S1024 (extui 32 (beats s) natLt_1_32) 0#32 reduces_S1024x1024_S1024 rfl) shapeCasts_S1024_S1x1024)
    broadcasts_S1x1024_S1024x1024) (iota .tc S1024x1024 32 [0] iota_S1024x1024_d0_w32)) natLt_1_32)

/-- A bit is set exactly when `j` comes before `i`. -/
theorem beats_apply (s : Vec Ideal S1x1x1024 .f32) (j i : Fin 1024) :
    beats s (ix2 j i) = 1#1 ↔ Rank.before (key s) j i = true := by
  rw [← Select.bit_eq_one_iff (key s) j i]
  have er : broadcastTo S1024x1024 (shapeCast S1x1024 s shapeCasts_S1x1x1024_S1x1024) broadcasts_S1x1024_S1024x1024 (ix2 j i) = key s i := by
    rw [broadcastTo_1b_ab_apply, shapeCast_1ab_ab_apply]
  have ec : broadcastTo S1024x1024 (transpose S1024x1 [1, 0] (shapeCast S1x1024 s shapeCasts_S1x1x1024_S1x1024) transposes_S1x1024_p1_0_S1024x1)
      broadcasts_S1024x1_S1024x1024 (ix2 j i) = key s j := by
    rw [Select.broadcastTo_column_apply, transpose_ix2_apply, shapeCast_1ab_ab_apply]
  rw [← er, ← ec]
  have i0 : iota .tc S1024x1024 32 [0] iota_S1024x1024_d0_w32 (ix2 j i) = BitVec.ofNat 32 j.val := by
    show BitVec.ofNat 32 (0 * 1024 + j.val) = _
    rw [Nat.zero_mul, Nat.zero_add]
  have i1 : iota .tc S1024x1024 32 [1] iota_S1024x1024_d1_w32 (ix2 j i) = BitVec.ofNat 32 i.val := by
    show BitVec.ofNat 32 (0 * 1024 + i.val) = _
    rw [Nat.zero_mul, Nat.zero_add]
  rw [← i0, ← i1]
  rfl

/-- The matrix has a one at `(r, i)` exactly when proposal `i` stands at place `r`. -/
theorem sel_apply (s : Vec Ideal S1x1x1024 .f32) (r i : Fin 1024) :
    sel s (ix2 r i) = (if i = Rank.pos (key s) r then 1 else 0 : EReal) := by
  rw [← Select.indicator (key s) r i]
  unfold sel
  simp only [sitofp_apply, extui_apply]
  have i0 : iota .tc S1024x1024 32 [0] iota_S1024x1024_d0_w32 (ix2 r i) = BitVec.ofNat 32 r.val := by
    show BitVec.ofNat 32 (0 * 1024 + r.val) = _
    rw [Nat.zero_mul, Nat.zero_add]
  have hc : broadcastTo S1024x1024 (shapeCast S1x1024
      (multiReductionI .add [0] S1024 (extui 32 (beats s) natLt_1_32) 0#32 reduces_S1024x1024_S1024 rfl) shapeCasts_S1024_S1x1024)
      broadcasts_S1x1024_S1024x1024 (ix2 r i) = BitVec.ofNat 32 (Rank.rank (key s) i) := by
    rw [broadcastTo_1b_ab_apply, shapeCast_a_1a_apply]
    refine (Select.count_apply (beats s) _ _ _ i).trans (congrArg (BitVec.ofNat 32) ?_)
    unfold Rank.rank
    exact congrArg Finset.card (Finset.filter_congr fun j _ => beats_apply s j i)
  rw [← i0, ← hc]
  rfl

/-- The block the body leaves, at row `r`: in columns 0 to 15 the head of the proposal at place `r` … -/
theorem pay1_head (v16 : FVec Ideal S1024x16 .f32) (v23 v25 v31 v37 v38 v39 v40 : FVec Ideal S1x1024 .f32)
    (s : Vec Ideal S1x1x1024 .f32) (r : Fin 1024) (c : Fin 32) (hc : c.val < 16) :
    k1_pay1 v16 v23 v25 v31 v37 v38 v39 v40 s (ix3 0 r c) = v16 (ix2 (Rank.pos (key s) r) ⟨c.val, hc⟩) := by
  unfold k1_pay1
  dsimp only
  rw [shapeCast_ab_1ab_apply]
  refine (cols_first _ _ _ _ r c hc).trans ?_
  refine (Ideal.matmul_plain_apply (M := 1024) (K := 1024) (N := 16) (some .fp32) (sel s) v16 _ r ⟨c.val, hc⟩).trans ?_
  rw [constant_apply, Ideal.ofBits_zero_f32, zero_add]
  exact Select.sum_indicator (Rank.pos (key s) r) (fun i => v16 (ix2 i ⟨c.val, hc⟩)) _ (sel_apply s r)

/-- … in columns 16 to 20 the five numbers of its box. -/
theorem pay1_box (v16 : FVec Ideal S1024x16 .f32) (p : Vec Ideal S1x1024x8 .f32)
    (s : Vec Ideal S1x1x1024 .f32) (r : Fin 1024) (c : Fin 32) (q : Fin 5) (hc : c.val = 16 + q.val) :
    k1_pay1 v16 (k1_pay7 p) (k1_pay9 p) (k1_pay10 p) (k1_pay11 p) (k1_pay12 p) (k1_pay13 p) (k1_pay14 p) s (ix3 0 r c)
      = Spec.box (fun d => p (ix3 0 (Rank.pos (key s) r) d)) q := by
  unfold k1_pay1
  dsimp only
  rw [shapeCast_ab_1ab_apply]
  refine (cols_second _ _ _ _ r c q hc).trans ?_
  refine (Ideal.matmul_transposedRhs_apply (M := 1024) (K := 1024) (N := 5) (some .fp32) (sel s) _ _ r q).trans ?_
  rw [constant_apply, Ideal.ofBits_zero_f32, zero_add]
  refine (Select.sum_indicator (Rank.pos (key s) r) _ _ (sel_apply s r)).trans ?_
  generalize Rank.pos (key s) r = i
  refine (rows_apply _ _ _ _ _ _ q i).trans ?_
  have e3 : k1_pay7 p (ix2 0 i) = p (ix3 0 i 3) := row_apply p 3 slices_S8x1024_o3_0_S1x1024 3 rfl i
  have e5 : k1_pay9 p (ix2 0 i) = p (ix3 0 i 5) := row_apply p 5 slices_S8x1024_o5_0_S1x1024 5 rfl i
  have sq : ∀ (x : FVec Ideal S1x1024 .f32) (j : S1x1024.Idx), sqrt x j = Ideal.sqrt (x j) := fun _ _ => rfl
  have at2 : ∀ (x y : FVec Ideal S1x1024 .f32) (j : S1x1024.Idx), atan2 x y j = Ideal.atan2 (x j) (y j) := fun _ _ _ => rfl
  match q with
  | ⟨0, _⟩ => exact pay10_apply p i
  | ⟨1, _⟩ => exact pay11_apply p i
  | ⟨2, _⟩ =>
    simp only [sq, addf_apply, mulf_apply, broadcast_apply, pay12_apply, pay13_apply]
    rfl
  | ⟨3, _⟩ =>
    simp only [sq, addf_apply, mulf_apply, subf_apply, broadcast_apply, pay14_apply, e3, e5]
    rfl
  | ⟨4, _⟩ =>
    simp only [at2, pay12_apply, pay13_apply]
    rfl

end Cert.Epi
-- ==== Proof.EpiArray.lean ====
/-
  The array the second call leaves.  Its grid has one point per batch element; each point reads that element's 1024 rows
  of the first call's result, its scores and its vertices, and writes that element's block.
-/
module

public import proofs.«01_k».proof.Proof.Epi
public import proofs.«01_k».proof.Proof.Gen.KernelIdeal.Frame
public import Idealize.ShloMosaic.Lib.Tactic

@[expose] public section

noncomputable section

open Idealize.ShloMosaic Idealize.ShloMosaic.TcCoe Idealize.SL.Sem
open Idealize.ShloMosaic.Pipeline (Dat)
open Idealize.ShloMosaic.ValueIdx

namespace Cert.EpiArray

open Cert.KernelIdeal Cert.KernelIdeal.Gen

/-- Zero offsets on two axes, in the two ways they are written. -/
theorem hz2 : (![0, 0] : Fin 2 → Nat) = fun _ => 0 := funext fun a => by fin_cases a <;> rfl
/-- Zero offsets on three axes, in the two ways they are written. -/
theorem hz3 : (![0, 0, 0] : Fin 3 → Nat) = fun _ => 0 := funext fun a => by fin_cases a <;> rfl

/-- What the body leaves in the output block: the payload of its one store, computed from the whole input blocks. -/
def block (x0 x1 : Vec Ideal S1024x1024 .f32) (x2 : Vec Ideal S1x1024 .f32) (x3 : Vec Ideal S1024x16 .f32)
    (x4 : Vec Ideal S1x16 .f32) (x5 : Vec Ideal S1x1x1024 .f32) (x6 : Vec Ideal S1x1024x8 .f32) : Vec Ideal S1x1024x32 .f32 :=
  k1_pay1 (k1_pay2 x0 x1 x2 x3 x4) (k1_pay7 x6) (k1_pay9 x6) (k1_pay10 x6) (k1_pay11 x6) (k1_pay12 x6) (k1_pay13 x6) (k1_pay14 x6) x5

/-- The body's output block is `block` of its input blocks. -/
theorem out_eq (x0 x1 : Vec Ideal S1024x1024 .f32) (x2 : Vec Ideal S1x1024 .f32) (x3 : Vec Ideal S1024x16 .f32)
    (x4 : Vec Ideal S1x16 .f32) (x5 : Vec Ideal S1x1x1024 .f32) (x6 : Vec Ideal S1x1024x8 .f32) :
    out1_7 x0 x1 x2 x3 x4 x5 x6 = block x0 x1 x2 x3 x4 x5 x6 := by
  unfold out1_7 block
  rw [View.canon_unit_zero hz3]
  simp only [View.ld_unit_zero (S := S1024x1024) hz2, View.ld_unit_zero (S := S1x1024) hz2, View.ld_unit_zero (S := S1024x16) hz2,
    View.ld_unit_zero (S := S1x16) hz2, View.ld_unit_zero (S := S1x1x1024) hz3, View.ld_unit_zero (S := S1x1024x8) hz3]

variable (V : (c : Dev nD) → (r : Ref sig .tc) → Buf (Elt Ideal) ((c : Thread nD τ).loc r)) (c : Dev nD)

/-- The first hidden layer. -/
abbrev arrX : S2048x1024.Idx → EReal := V c main_v6
/-- The weights `W2`. -/
abbrev arrW : S1024x1024.Idx → EReal := V c main_arg5
/-- The second bias row. -/
abbrev arrB : S1x1024.Idx → EReal := V c main_v7
/-- The two heads' weights side by side. -/
abbrev arrH : S1024x16.Idx → EReal := V c main_v2
/-- The two heads' biases side by side. -/
abbrev arrG : S1x16.Idx → EReal := V c main_v4
/-- The scores. -/
abbrev arrS : S2x1x1024.Idx → EReal := V c main_v8
/-- The vertices. -/
abbrev arrP : S2x1024x8.Idx → EReal := V c main_v1

/-- At which block each window stands at a grid point. -/
theorem index1 : ∀ t : Fin grid1.N, win1_0.index t 0 = t.val ∧ win1_0.index t 1 = 0 ∧ win1_1.index t 0 = 0 ∧ win1_1.index t 1 = 0
    ∧ win1_2.index t 0 = 0 ∧ win1_2.index t 1 = 0 ∧ win1_3.index t 0 = 0 ∧ win1_3.index t 1 = 0 ∧ win1_4.index t 0 = 0
    ∧ win1_4.index t 1 = 0 := by
  decide +kernel
/-- The same for the windows on three axes. -/
theorem index1' : ∀ t : Fin grid1.N, win1_5.index t 0 = t.val ∧ win1_5.index t 1 = 0 ∧ win1_5.index t 2 = 0
    ∧ win1_6.index t 0 = t.val ∧ win1_6.index t 1 = 0 ∧ win1_6.index t 2 = 0
    ∧ win1_7.index t 0 = t.val ∧ win1_7.index t 1 = 0 ∧ win1_7.index t 2 = 0 := by
  decide +kernel

/-- The rows of batch element `t`. -/
theorem block_X (t : Fin cfg1.N) (i k : Fin 1024) (h : 1024 * t.val + i.val < 2048) :
    (iblk1 V c 0 t : Vec Ideal S1024x1024 .f32) (ix2 i k) = arrX V c (ix2 ⟨1024 * t.val + i.val, h⟩ k) := by
  obtain ⟨e0, e1, -⟩ := index1 t
  unfold iblk1
  rw [View.read_apply]
  show V c main_v6 _ = V c main_v6 _
  congr 1
  funext a
  apply Fin.ext
  match a with
  | ⟨0, _⟩ => show win1_0.index t 0 * 1024 + 1 * i.val = 1024 * t.val + i.val; rw [e0]; omega
  | ⟨1, _⟩ => show win1_0.index t 1 * 1024 + 1 * k.val = k.val; rw [e1]; omega

/-- The weights `W2` are one block. -/
theorem block_W (t : Fin cfg1.N) (k q : Fin 1024) : (iblk1 V c 1 t : Vec Ideal S1024x1024 .f32) (ix2 k q) = arrW V c (ix2 k q) := by
  obtain ⟨-, -, e0, e1, -⟩ := index1 t
  unfold iblk1
  rw [View.read_apply]
  show V c main_arg5 _ = V c main_arg5 _
  congr 1
  funext a
  apply Fin.ext
  match a with
  | ⟨0, _⟩ => show win1_1.index t 0 * 1024 + 1 * k.val = k.val; rw [e0]; omega
  | ⟨1, _⟩ => show win1_1.index t 1 * 1024 + 1 * q.val = q.val; rw [e1]; omega

/-- The second bias row is one block. -/
theorem block_B (t : Fin cfg1.N) (q : Fin 1024) : (iblk1 V c 2 t : Vec Ideal S1x1024 .f32) (ix2 0 q) = arrB V c (ix2 0 q) := by
  obtain ⟨-, -, -, -, e0, e1, -⟩ := index1 t
  unfold iblk1
  rw [View.read_apply]
  show V c main_v7 _ = V c main_v7 _
  congr 1
  funext a
  apply Fin.ext
  match a with
  | ⟨0, _⟩ => show win1_2.index t 0 * 1 + 1 * 0 = 0; rw [e0]
  | ⟨1, _⟩ => show win1_2.index t 1 * 1024 + 1 * q.val = q.val; rw [e1]; omega

/-- The heads' weights are one block. -/
theorem block_H (t : Fin cfg1.N) (q : Fin 1024) (e : Fin 16) : (iblk1 V c 3 t : Vec Ideal S1024x16 .f32) (ix2 q e) = arrH V c (ix2 q e) := by
  obtain ⟨-, -, -, -, -, -, e0, e1, -⟩ := index1 t
  unfold iblk1
  rw [View.read_apply]
  show V c main_v2 _ = V c main_v2 _
  congr 1
  funext a
  apply Fin.ext
  match a with
  | ⟨0, _⟩ => show win1_3.index t 0 * 1024 + 1 * q.val = q.val; rw [e0]; omega
  | ⟨1, _⟩ => show win1_3.index t 1 * 16 + 1 * e.val = e.val; rw [e1]; omega

/-- The heads' biases are one block. -/
theorem block_G (t : Fin cfg1.N) (e : Fin 16) : (iblk1 V c 4 t : Vec Ideal S1x16 .f32) (ix2 0 e) = arrG V c (ix2 0 e) := by
  obtain ⟨-, -, -, -, -, -, -, -, e0, e1⟩ := index1 t
  unfold iblk1
  rw [View.read_apply]
  show V c main_v4 _ = V c main_v4 _
  congr 1
  funext a
  apply Fin.ext
  match a with
  | ⟨0, _⟩ => show win1_4.index t 0 * 1 + 1 * 0 = 0; rw [e0]
  | ⟨1, _⟩ => show win1_4.index t 1 * 16 + 1 * e.val = e.val; rw [e1]; omega

/-- The scores of batch element `t`. -/
theorem block_S (t : Fin cfg1.N) (b : Fin 2) (hb : b.val = t.val) (i : Fin 1024) :
    (iblk1 V c 5 t : Vec Ideal S1x1x1024 .f32) (ix3 0 0 i) = arrS V c (ix3 b 0 i) := by
  obtain ⟨e0, e1, e2, -⟩ := index1' t
  unfold iblk1
  rw [View.read_apply]
  show V c main_v8 _ = V c main_v8 _
  congr 1
  funext a
  apply Fin.ext
  match a with
  | ⟨0, _⟩ => show win1_5.index t 0 * 1 + 1 * 0 = b.val; rw [e0]; omega
  | ⟨1, _⟩ => show win1_5.index t 1 * 1 + 1 * 0 = 0; rw [e1]
  | ⟨2, _⟩ => show win1_5.index t 2 * 1024 + 1 * i.val = i.val; rw [e2]; omega

/-- The vertices of batch element `t`. -/
theorem block_P (t : Fin cfg1.N) (b : Fin 2) (hb : b.val = t.val) (i : Fin 1024) (d : Fin 8) :
    (iblk1 V c 6 t : Vec Ideal S1x1024x8 .f32) (ix3 0 i d) = arrP V c (ix3 b i d) := by
  obtain ⟨-, -, -, e0, e1, e2, -⟩ := index1' t
  unfold iblk1
  rw [View.read_apply]
  show V c main_v1 _ = V c main_v1 _
  congr 1
  funext a
  apply Fin.ext
  match a with
  | ⟨0, _⟩ => show win1_6.index t 0 * 1 + 1 * 0 = b.val; rw [e0]; omega
  | ⟨1, _⟩ => show win1_6.index t 1 * 1024 + 1 * i.val = i.val; rw [e1]; omega
  | ⟨2, _⟩ => show win1_6.index t 2 * 8 + 1 * d.val = d.val; rw [e2]; omega

/-- The grid point of batch element `b`. -/
def point (b : Fin 2) : Fin cfg1.N := ⟨b.val, by rw [show cfg1.N = 2 from N_1]; exact b.isLt⟩

/-- The array the call is to leave: at batch element `b`, the block of point `b`. -/
def result : Buf (Elt Ideal) ((c : Thread nD τ).loc main_v9) := fun i : S2x1024x32.Idx =>
  block (iblk1 V c 0 (point (i 0))) (iblk1 V c 1 (point (i 0))) (iblk1 V c 2 (point (i 0))) (iblk1 V c 3 (point (i 0)))
    (iblk1 V c 4 (point (i 0))) (iblk1 V c 5 (point (i 0))) (iblk1 V c 6 (point (i 0))) (ix3 0 (i 1) (i 2))

/-- Each point writes back its block of that array. -/
theorem flushed_eq (t : Fin cfg1.N) (hf : (cfg1.win 7).flush t = true) :
    (dat1 V c).flushed 7 t = ((cfg1.win 7).blk t).view.read (Elt Ideal) (result V c) := by
  have hN : cfg1.N = 2 := N_1
  obtain ⟨-, -, -, -, -, -, e0, e1, e2⟩ := index1' t
  show (cfg1.win 7).cut (grid1.coords t) ((dat1 V c).after 7 t) = _
  rw [after1_7, out_eq]
  funext j
  obtain ⟨u, r, q, rfl⟩ : ∃ (u : Fin 1) (r : Fin 1024) (q : Fin 32), j = ix3 u r q := ⟨j 0, j 1, j 2, eq_ix3 j⟩
  have hu : u = 0 := Subsingleton.elim _ _
  subst hu
  have hb : t.val < 2 := by have := t.isLt; omega
  have hi : (ix3 (⟨t.val, hb⟩ : Fin 2) r q : S2x1024x32.Idx) = ((cfg1.win 7).blk t).view.emb (ix3 (0 : Fin 1) r q) := by
    funext a
    apply Fin.ext
    match a with
    | ⟨0, _⟩ => show t.val = win1_7.index t 0 * 1 + 1 * 0; rw [e0]; omega
    | ⟨1, _⟩ => show r.val = win1_7.index t 1 * 1024 + 1 * r.val; rw [e1]; omega
    | ⟨2, _⟩ => show q.val = win1_7.index t 2 * 32 + 1 * q.val; rw [e2]; omega
  rw [View.read_apply]
  refine Eq.trans ?_ (congrArg (result V c) hi)
  rfl

/-- So the call leaves that array. -/
theorem final : (dat1 V c).arrAt 7 cfg1.N = result V c :=
  (dat1 V c).arrAt_eq_of_cover 7 (result V c) (flushed_eq V c) fun i => by
    have hN : cfg1.N = 2 := N_1
    have h0 : (i 0 : Nat) < 2 := (i 0).isLt
    have h1 : (i 1 : Nat) < 1024 := (i 1).isLt
    have h2 : (i 2 : Nat) < 32 := (i 2).isLt
    obtain ⟨t, ht⟩ : ∃ t : Fin cfg1.N, t.val = (i 0 : Nat) := ⟨⟨(i 0 : Nat), by omega⟩, rfl⟩
    refine ⟨t, flush1_7 t, ?_⟩
    obtain ⟨-, -, -, -, -, -, e0, e1, e2⟩ := index1' t
    show i ∈ ((View.whole main_v9).slice (win1_7.rect t)).set
    rw [View.set_slice_whole, Rect.mem_set_unit]
    intro a
    match a with
    | ⟨0, _⟩ => show win1_7.index t 0 * 1 ≤ (i 0 : Nat) ∧ (i 0 : Nat) < win1_7.index t 0 * 1 + 1
                rw [e0]; omega
    | ⟨1, _⟩ => show win1_7.index t 1 * 1024 ≤ (i 1 : Nat) ∧ (i 1 : Nat) < win1_7.index t 1 * 1024 + 1024
                rw [e1]; omega
    | ⟨2, _⟩ => show win1_7.index t 2 * 32 ≤ (i 2 : Nat) ∧ (i 2 : Nat) < win1_7.index t 2 * 32 + 32
                rw [e2]; omega

/-- The proposal at place `r` of batch element `b`. -/
def place (b : Fin 2) (r : Fin 1024) : Fin 1024 := Rank.pos (fun i => arrS V c (ix3 b 0 i)) r

/-- Its key is the batch element's scores. -/
theorem key_eq (b : Fin 2) : Epi.key (iblk1 V c 5 (point b)) = fun i => arrS V c (ix3 b 0 i) :=
  funext fun i => block_S V c (point b) b rfl i

/-- Row `r` of batch element `b`, columns 0 to 15: the head of the proposal at place `r`. -/
theorem result_head (b : Fin 2) (r : Fin 1024) (e : Fin 32) (he : e.val < 16)
    (h : 1024 * b.val + (place V c b r).val < 2048) :
    result V c (ix3 b r e)
      = Spec.head (Spec.layer (fun k : Fin 1024 => arrX V c (ix2 ⟨1024 * b.val + (place V c b r).val, h⟩ k))
          (fun k q => arrW V c (ix2 k q)) (fun q : Fin 1024 => arrB V c (ix2 0 q)))
        (fun q => arrH V c (ix2 q ⟨e.val, he⟩)) (arrG V c (ix2 0 ⟨e.val, he⟩)) := by
  show block _ _ _ _ _ _ _ (ix3 0 r e) = _
  unfold block
  rw [Epi.pay1_head _ _ _ _ _ _ _ _ _ r e he, key_eq V c b]
  change k1_pay2 _ _ _ _ _ (ix2 (place V c b r) _) = _
  rw [Epi.pay2_apply]
  unfold Epi.headAt
  simp only [block_W V c, block_B V c, block_H V c, block_G V c]
  congr 2
  funext k
  exact block_X V c (point b) (place V c b r) k h

/-- Row `r` of batch element `b`, columns 16 to 20: the box of the proposal at place `r`. -/
theorem result_box (b : Fin 2) (r : Fin 1024) (e : Fin 32) (q : Fin 5) (he : e.val = 16 + q.val) :
    result V c (ix3 b r e) = Spec.box (fun d => arrP V c (ix3 b (place V c b r) d)) q := by
  show block _ _ _ _ _ _ _ (ix3 0 r e) = _
  unfold block
  rw [Epi.pay1_box _ _ _ r e q he, key_eq V c b]
  change Spec.box (fun d => iblk1 V c 6 (point b) (ix3 0 (place V c b r) d)) q = _
  congr 1
  funext d
  exact block_P V c (point b) b rfl _ d

end Cert.EpiArray
-- ==== Proof.Result.lean ====
/-
  The detection head's result as plain mathematics: what both programs are shown to compute.  At batch element `b` and
  place `r` stands the proposal that the stable descending sort of the scores puts there; its eleven class scores, its
  five regression numbers and the five numbers of its box are laid side by side.
-/
module

public import proofs.«01_k».proof.Proof.Spec
public import proofs.«01_k».proof.Proof.Rank
public import Idealize.ShloMosaic.Lib.ValueIdx

@[expose] public section

noncomputable section

open Idealize.ShloMosaic
open Idealize.ShloMosaic.ValueIdx

namespace Cert.Result

/-- The proposal at place `r` of batch element `b`. -/
def place (scores : (⟨2, ![2, 1024]⟩ : Shape).Idx → EReal) (b : Fin 2) (r : Fin 1000) : Fin 1024 :=
  Rank.pos (fun i : Fin 1024 => scores (ix2 b i)) ⟨r.val, Nat.lt_trans r.isLt (by decide)⟩

/-- The second hidden layer of proposal `n` of batch element `b`. -/
def hidden (feat : (⟨3, ![2, 1024, 12544]⟩ : Shape).Idx → EReal) (w1 : (⟨2, ![12544, 1024]⟩ : Shape).Idx → EReal)
    (b1 : (⟨1, ![1024]⟩ : Shape).Idx → EReal) (w2 : (⟨2, ![1024, 1024]⟩ : Shape).Idx → EReal)
    (b2 : (⟨1, ![1024]⟩ : Shape).Idx → EReal) (b : Fin 2) (n : Fin 1024) : Fin 1024 → EReal :=
  Spec.layer (Spec.layer (fun k : Fin 12544 => feat (ix3 b n k)) (fun k q => w1 (ix2 k q)) (fun q : Fin 1024 => b1 (ix1 q)))
    (fun k q => w2 (ix2 k q)) (fun q : Fin 1024 => b2 (ix1 q))

/-- Class score `e` of a proposal with hidden row `y`. -/
def cls (wc : (⟨2, ![1024, 11]⟩ : Shape).Idx → EReal) (bc : (⟨1, ![11]⟩ : Shape).Idx → EReal) (y : Fin 1024 → EReal) (e : Fin 11) : EReal :=
  Spec.head y (fun q => wc (ix2 q e)) (bc (ix1 e))

/-- Regression number `e` of a proposal with hidden row `y`. -/
def reg (wr : (⟨2, ![1024, 5]⟩ : Shape).Idx → EReal) (br : (⟨1, ![5]⟩ : Shape).Idx → EReal) (y : Fin 1024 → EReal) (e : Fin 5) : EReal :=
  Spec.head y (fun q => wr (ix2 q e)) (br (ix1 e))

/-- The result at batch element `b`, place `r` and column `e`: columns 0 to 10 are the class scores, 11 to 15 the
    regression, 16 to 20 the box. -/
def out (feat : (⟨3, ![2, 1024, 12544]⟩ : Shape).Idx → EReal) (scores : (⟨2, ![2, 1024]⟩ : Shape).Idx → EReal)
    (vert : (⟨3, ![2, 1024, 8]⟩ : Shape).Idx → EReal) (w1 : (⟨2, ![12544, 1024]⟩ : Shape).Idx → EReal)
    (b1 : (⟨1, ![1024]⟩ : Shape).Idx → EReal) (w2 : (⟨2, ![1024, 1024]⟩ : Shape).Idx → EReal)
    (b2 : (⟨1, ![1024]⟩ : Shape).Idx → EReal) (wc : (⟨2, ![1024, 11]⟩ : Shape).Idx → EReal)
    (bc : (⟨1, ![11]⟩ : Shape).Idx → EReal) (wr : (⟨2, ![1024, 5]⟩ : Shape).Idx → EReal)
    (br : (⟨1, ![5]⟩ : Shape).Idx → EReal) (b : Fin 2) (r : Fin 1000) (e : Fin 21) : EReal :=
  if h : e.val < 11 then cls wc bc (hidden feat w1 b1 w2 b2 b (place scores b r)) ⟨e.val, h⟩
  else if h' : e.val < 16 then reg wr br (hidden feat w1 b1 w2 b2 b (place scores b r)) ⟨e.val - 11, by omega⟩
  else Spec.box (fun d : Fin 8 => vert (ix3 b (place scores b r) d)) ⟨e.val - 16, by have := e.isLt; omega⟩

end Cert.Result

end
-- ==== Proof.KernelArrays.lean ====
/-
  What the arrays around the two calls hold: the host's reshapes, joins and row vectors of the arguments that the calls
  read, each at an index, and the array that the program returns.
-/
module

public import proofs.«01_k».proof.Proof.Fc1
public import proofs.«01_k».proof.Proof.EpiArray
public import proofs.«01_k».proof.Proof.Result
public import Idealize.ShloMosaic.Lib.StableHlo.Run
public import Idealize.ShloMosaic.Lib.Pointwise.Reshape

@[expose] public section

noncomputable section

open Idealize.ShloMosaic hiding ix1 ix2 ix3 ix4 ix5
open Idealize.ShloMosaic.TcCoe Idealize.SL.Sem
open Idealize.ShloMosaic.ValueIdx

namespace Cert.KernelArrays

open Cert.KernelIdeal Cert.KernelIdeal.Gen

/-- The shape of the features with the three last axes as one. -/
abbrev S2x1024x12544 : Shape := ⟨3, ![2, 1024, 12544]⟩

variable (m : (ℓ : Loc nD τ sig) → Buf (Elt Ideal) ℓ) (ρ : Dev nD → PrngReg) (c : Dev nD)

/-- The features. -/
abbrev x0 : S2x1024x256x7x7.Idx → EReal := m ((c : Thread nD τ).loc main_arg0)
/-- The scores. -/
abbrev x1 : S2x1024.Idx → EReal := m ((c : Thread nD τ).loc main_arg1)
/-- The vertices. -/
abbrev x2 : S2x1024x4x2.Idx → EReal := m ((c : Thread nD τ).loc main_arg2)
/-- The first layer's weights. -/
abbrev x3 : S12544x1024.Idx → EReal := m ((c : Thread nD τ).loc main_arg3)
/-- The first layer's biases. -/
abbrev x4 : S1024.Idx → EReal := m ((c : Thread nD τ).loc main_arg4)
/-- The second layer's weights. -/
abbrev x5 : S1024x1024.Idx → EReal := m ((c : Thread nD τ).loc main_arg5)
/-- The second layer's biases. -/
abbrev x6 : S1024.Idx → EReal := m ((c : Thread nD τ).loc main_arg6)
/-- The class head's weights. -/
abbrev x7 : S1024x11.Idx → EReal := m ((c : Thread nD τ).loc main_arg7)
/-- The class head's biases. -/
abbrev x8 : S11.Idx → EReal := m ((c : Thread nD τ).loc main_arg8)
/-- The regression head's weights. -/
abbrev x9 : S1024x5.Idx → EReal := m ((c : Thread nD τ).loc main_arg9)
/-- The regression head's biases. -/
abbrev x10 : S5.Idx → EReal := m ((c : Thread nD τ).loc main_arg10)

/-! ### Before the first call -/

/-- The features as one row per proposal. -/
theorem v0_eq : (W1 m ρ c (Proc.devRef .tc main_v0) : S2048x12544.Idx → EReal)
    = shapeCast S2048x12544 (x0 m c) shapeCasts_S2x1024x256x7x7_S2048x12544 := by
  show StableHlo.after hostOps0 (W0 m ρ c) (Proc.devRef .tc main_v0) = _
  after_results
  rfl

/-- The vertices as eight numbers per proposal. -/
theorem v1_eq : (W1 m ρ c (Proc.devRef .tc main_v1) : S2x1024x8.Idx → EReal)
    = shapeCast S2x1024x8 (x2 m c) shapeCasts_S2x1024x4x2_S2x1024x8 := by
  show StableHlo.after hostOps0 (W0 m ρ c) (Proc.devRef .tc main_v1) = _
  after_results
  rfl

/-- The two heads' weights side by side. -/
theorem v2_eq : (W1 m ρ c (Proc.devRef .tc main_v2) : S1024x16.Idx → EReal)
    = concatenate S1024x16 1 [⟨S1024x11, x7 m c⟩, ⟨S1024x5, x9 m c⟩] concatenates_S1024x11_S1024x5_S1024x16_d1 := by
  show StableHlo.after hostOps0 (W0 m ρ c) (Proc.devRef .tc main_v2) = _
  after_results

/-- The two heads' biases side by side, as a row. -/
theorem v4_eq : (W1 m ρ c (Proc.devRef .tc main_v4) : S1x16.Idx → EReal)
    = broadcastInDim S1x16 ![1] bcast_S16_S1x16_1
        (concatenate S16 0 [⟨S11, x8 m c⟩, ⟨S5, x10 m c⟩] concatenates_S11_S5_S16_d0) := by
  show StableHlo.after hostOps0 (W0 m ρ c) (Proc.devRef .tc main_v4) = _
  after_results

/-- The first layer's biases as a row. -/
theorem v5_eq : (W1 m ρ c (Proc.devRef .tc main_v5) : S1x1024.Idx → EReal)
    = broadcastInDim S1x1024 ![1] bcast_S1024_S1x1024_1 (x4 m c) := by
  show StableHlo.after hostOps0 (W0 m ρ c) (Proc.devRef .tc main_v5) = _
  after_results

/-! ### Between the calls -/

/-- The second layer's biases as a row. -/
theorem v7_eq : (W3 m ρ c (Proc.devRef .tc main_v7) : S1x1024.Idx → EReal)
    = broadcastInDim S1x1024 ![1] bcast_S1024_S1x1024_1 (W2 m ρ c (Proc.devRef .tc main_arg6) : S1024.Idx → EReal) := by
  show StableHlo.after hostOps1 (W2 m ρ c) (Proc.devRef .tc main_v7) = _
  after_results

/-- The scores with a unit axis. -/
theorem v8_eq : (W3 m ρ c (Proc.devRef .tc main_v8) : S2x1x1024.Idx → EReal)
    = broadcastInDim S2x1x1024 ![0, 2] bcast_S2x1024_S2x1x1024_0_2 (W2 m ρ c (Proc.devRef .tc main_arg1) : S2x1024.Idx → EReal) := by
  show StableHlo.after hostOps1 (W2 m ρ c) (Proc.devRef .tc main_v8) = _
  after_results

/-! ### After the second call -/

/-- The program returns the first 1000 places and 21 columns of the second call's array. -/
theorem v10_eq : (W5 m ρ c (Proc.devRef .tc main_v10) : S2x1000x21.Idx → EReal)
    = extractStridedSlice S2x1000x21 ![0, 0, 0] (W4 m ρ c (Proc.devRef .tc main_v9) : S2x1024x32.Idx → EReal)
        slices_S2x1024x32_S2x1000x21_0_0_0 := by
  show StableHlo.after hostOps2 (W4 m ρ c) (Proc.devRef .tc main_v10) = _
  after_results

/-! ### Row vectors at an index -/

/-- A vector as a row. -/
theorem row_apply (x : S1024.Idx → EReal) (q : Fin 1024) :
    broadcastInDim S1x1024 ![1] bcast_S1024_S1x1024_1 x (ix2 0 q) = x (ix1 q) :=
  broadcastInDim_apply _ _ x _ (ix1 q) fun a => match a with | ⟨0, _⟩ => rfl

/-- A vector of 16 as a row. -/
theorem row16_apply (x : S16.Idx → EReal) (q : Fin 16) :
    broadcastInDim S1x16 ![1] bcast_S16_S1x16_1 x (ix2 0 q) = x (ix1 q) :=
  broadcastInDim_apply _ _ x _ (ix1 q) fun a => match a with | ⟨0, _⟩ => rfl

/-- The scores with a unit axis. -/
theorem scores_apply (x : S2x1024.Idx → EReal) (b : Fin 2) (i : Fin 1024) :
    broadcastInDim S2x1x1024 ![0, 2] bcast_S2x1024_S2x1x1024_0_2 x (ix3 b 0 i) = x (ix2 b i) :=
  broadcastInDim_apply _ _ x _ (ix2 b i) fun a => match a with | ⟨0, _⟩ => rfl | ⟨1, _⟩ => rfl

/-- Two blocks of columns side by side: the first eleven columns … -/
theorem cols_left (x : S1024x11.Idx → EReal) (y : S1024x5.Idx → EReal) (k : Fin 1024) (e : Fin 16) (he : e.val < 11) :
    concatenate S1024x16 1 [⟨S1024x11, x⟩, ⟨S1024x5, y⟩] concatenates_S1024x11_S1024x5_S1024x16_d1 (ix2 k e) = x (ix2 k ⟨e.val, he⟩) :=
  concatenate_pair_apply_left (t := S1024x16) 1 x y _ (ix2 k e) rfl (ix2 k ⟨e.val, he⟩) fun b => match b with
    | ⟨0, _⟩ => rfl | ⟨1, _⟩ => rfl

/-- … and the last five. -/
theorem cols_right (x : S1024x11.Idx → EReal) (y : S1024x5.Idx → EReal) (k : Fin 1024) (e : Fin 16) (q : Fin 5) (he : q.val + 11 = e.val) :
    concatenate S1024x16 1 [⟨S1024x11, x⟩, ⟨S1024x5, y⟩] concatenates_S1024x11_S1024x5_S1024x16_d1 (ix2 k e) = y (ix2 k q) :=
  concatenate_pair_apply_right (t := S1024x16) 1 x y _ (ix2 k e) rfl rfl (ix2 k q) (fun b hb => match b, hb with
    | ⟨0, _⟩, _ => rfl | ⟨1, _⟩, hb => absurd rfl hb) he

/-- The same for the biases: the first eleven … -/
theorem bias_left (x : S11.Idx → EReal) (y : S5.Idx → EReal) (e : Fin 16) (he : e.val < 11) :
    concatenate S16 0 [⟨S11, x⟩, ⟨S5, y⟩] concatenates_S11_S5_S16_d0 (ix1 e) = x (ix1 ⟨e.val, he⟩) :=
  concatenate_pair_apply_left (t := S16) 0 x y _ (ix1 e) rfl (ix1 ⟨e.val, he⟩) fun b => match b with | ⟨0, _⟩ => rfl

/-- … and the last five. -/
theorem bias_right (x : S11.Idx → EReal) (y : S5.Idx → EReal) (e : Fin 16) (q : Fin 5) (he : q.val + 11 = e.val) :
    concatenate S16 0 [⟨S11, x⟩, ⟨S5, y⟩] concatenates_S11_S5_S16_d0 (ix1 e) = y (ix1 q) :=
  concatenate_pair_apply_right (t := S16) 0 x y _ (ix1 e) rfl rfl (ix1 q) (fun b hb => match b, hb with
    | ⟨0, _⟩, hb => absurd rfl hb) he

/-! ### What the second call reads -/

/-- The features in three axes and in two have the same number of elements. -/
theorem casts : S2x1024x12544.ShapeCasts S2048x12544 := rfl

/-- The first hidden layer of proposal `n` of batch element `b`: row `1024·b + n` of the first call's array. -/
theorem hidden1 (h : S2x1024x256x7x7.ShapeCasts S2x1024x12544) (b : Fin 2) (n k : Fin 1024) (hn : 1024 * b.val + n.val < 2048) :
    EpiArray.arrX (V3 m ρ) c (ix2 ⟨1024 * b.val + n.val, hn⟩ k)
      = Spec.layer (fun j : Fin 12544 => shapeCast S2x1024x12544 (x0 m c) h (ix3 b n j)) (fun j q => x3 m c (ix2 j q))
          (fun q : Fin 1024 => x4 m c (ix1 q)) k := by
  have e : EpiArray.arrX (V3 m ρ) c = Fc1.result (V1 m ρ) c :=
    (W3_of m ρ c main_v6 (by decide)).trans ((W2_arr m ρ c 3).trans (Fc1.final (V1 m ρ) c))
  rw [e]
  have eW : Fc1.arrW (V1 m ρ) c = x3 m c := W1_args m ρ c main_arg3 (by decide)
  have eB : ∀ q : Fin 1024, Fc1.arrB (V1 m ρ) c (ix2 0 q) = x4 m c (ix1 q) := fun q =>
    (congrFun (v5_eq m ρ c) _).trans ((row_apply _ q).trans (congrFun (W1_args m ρ c main_arg4 (by decide)) _))
  have eA : Fc1.arrA (V1 m ρ) c = shapeCast S2048x12544 (shapeCast S2x1024x12544 (x0 m c) h) casts :=
    (v0_eq m ρ c).trans (shapeCast_comp _ _ _).symm
  unfold Fc1.result
  simp only [eW, eB, eA]
  have eR : ∀ j : Fin 12544, shapeCast S2048x12544 (shapeCast S2x1024x12544 (x0 m c) h) casts
      (ix2 (⟨1024 * b.val + n.val, hn⟩ : Fin 2048) j) = shapeCast S2x1024x12544 (x0 m c) h (ix3 b n j) := fun j =>
    shapeCast_apply _ _ _ _ (by
      rw [Shape.rowMajor_val_three, Shape.rowMajor_val_two]
      show (b.val * 1024 + n.val) * 12544 + j.val = (1024 * b.val + n.val) * 12544 + j.val
      omega)
  show Spec.layer (fun j : Fin 12544 => shapeCast S2048x12544 (shapeCast S2x1024x12544 (x0 m c) h) casts
      (ix2 (⟨1024 * b.val + n.val, hn⟩ : Fin 2048) j)) _ _ k = _
  simp only [eR]

/-- Proposals are put in order by the scores. -/
theorem place_eq (b : Fin 2) (r : Fin 1000) :
    EpiArray.place (V3 m ρ) c b ⟨r.val, Nat.lt_trans r.isLt (by decide)⟩ = Result.place (x1 m c) b r := by
  unfold EpiArray.place Result.place
  congr 1
  funext i
  have e : EpiArray.arrS (V3 m ρ) c = _ := v8_eq m ρ c
  rw [e, scores_apply]
  exact congrFun (W2_args m ρ c main_arg1 (by decide)) _

/-- An array written before the first call is as it was there when the second call reads it. -/
theorem early (r : Ref sig .tc) (h1 : r ∉ hostOps1_W) (h0 : ∀ w, Pipeline.arrRef spec0 w ≠ r) :
    V3 m ρ c r = W1 m ρ c (Proc.devRef .tc r) :=
  (W3_of m ρ c r h1).trans (W2_of_ne m ρ c r h0)

/-- THE KERNEL'S RESULT at an index. -/
theorem value (h : S2x1024x256x7x7.ShapeCasts S2x1024x12544) (b : Fin 2) (r : Fin 1000) (e : Fin 21) :
    (W5 m ρ c (Proc.devRef .tc main_v10) : S2x1000x21.Idx → EReal) (ix3 b r e)
      = Result.out (shapeCast S2x1024x12544 (x0 m c) h) (x1 m c) (shapeCast S2x1024x8 (x2 m c) shapeCasts_S2x1024x4x2_S2x1024x8)
          (x3 m c) (x4 m c) (x5 m c) (x6 m c) (x7 m c) (x8 m c) (x9 m c) (x10 m c) b r e := by
  have hr : r.val < 1024 := Nat.lt_trans r.isLt (by decide)
  have he : e.val < 32 := Nat.lt_trans e.isLt (by decide)
  rw [v10_eq]
  have es : extractStridedSlice S2x1000x21 ![0, 0, 0] (W4 m ρ c (Proc.devRef .tc main_v9) : S2x1024x32.Idx → EReal)
      slices_S2x1024x32_S2x1000x21_0_0_0 (ix3 b r e) = EpiArray.result (V3 m ρ) c (ix3 b ⟨r.val, hr⟩ ⟨e.val, he⟩) := by
    refine (extractStridedSlice_apply _ _ _ _ (ix3 b ⟨r.val, hr⟩ ⟨e.val, he⟩) fun a => ?_).trans
      (congrFun ((W4_arr m ρ c 7).trans (EpiArray.final (V3 m ρ) c)) _)
    match a with
    | ⟨0, _⟩ => exact (Nat.zero_add _).symm
    | ⟨1, _⟩ => exact (Nat.zero_add _).symm
    | ⟨2, _⟩ => exact (Nat.zero_add _).symm
  rw [es]
  have hn : 1024 * b.val + (EpiArray.place (V3 m ρ) c b ⟨r.val, hr⟩).val < 2048 := by
    have := b.isLt; have := (EpiArray.place (V3 m ρ) c b ⟨r.val, hr⟩).isLt; omega
  have eW : EpiArray.arrW (V3 m ρ) c = x5 m c := W3_args m ρ c main_arg5 (by decide)
  have eB : ∀ q : Fin 1024, EpiArray.arrB (V3 m ρ) c (ix2 0 q) = x6 m c (ix1 q) := fun q => by
    have e : EpiArray.arrB (V3 m ρ) c = _ := v7_eq m ρ c
    rw [e, row_apply]
    exact congrFun (W2_args m ρ c main_arg6 (by decide)) _
  have eH := (early m ρ c main_v2 (by decide) (by decide)).trans (v2_eq m ρ c)
  have eG := (early m ρ c main_v4 (by decide) (by decide)).trans (v4_eq m ρ c)
  have eP : EpiArray.arrP (V3 m ρ) c = _ := (early m ρ c main_v1 (by decide) (by decide)).trans (v1_eq m ρ c)
  have hp := place_eq m ρ c b r
  unfold Result.out
  by_cases h11 : e.val < 11
  · rw [dif_pos h11, EpiArray.result_head (V3 m ρ) c b ⟨r.val, hr⟩ ⟨e.val, he⟩ (by dsimp only; omega) hn]
    have eH' : ∀ q : Fin 1024, EpiArray.arrH (V3 m ρ) c (ix2 q ⟨e.val, by omega⟩) = x7 m c (ix2 q ⟨e.val, h11⟩) := fun q =>
      (congrFun eH _).trans (cols_left _ _ q ⟨e.val, by omega⟩ h11)
    have eG' : EpiArray.arrG (V3 m ρ) c (ix2 0 ⟨e.val, by omega⟩) = x8 m c (ix1 ⟨e.val, h11⟩) :=
      (congrFun eG _).trans ((row16_apply _ _).trans (bias_left _ _ ⟨e.val, by omega⟩ h11))
    unfold Result.cls Result.hidden
    simp only [hidden1 m ρ c h, eW, eB, eH', eG', hp]
  · rw [dif_neg h11]
    by_cases h16 : e.val < 16
    · rw [dif_pos h16, EpiArray.result_head (V3 m ρ) c b ⟨r.val, hr⟩ ⟨e.val, he⟩ h16 hn]
      have h5 : e.val - 11 < 5 := by omega
      have hq : (⟨e.val - 11, h5⟩ : Fin 5).val + 11 = e.val := by dsimp only; omega
      have eH' : ∀ q : Fin 1024, EpiArray.arrH (V3 m ρ) c (ix2 q ⟨e.val, h16⟩) = x9 m c (ix2 q ⟨e.val - 11, h5⟩) := fun q =>
        (congrFun eH _).trans (cols_right _ _ q ⟨e.val, h16⟩ ⟨e.val - 11, h5⟩ hq)
      have eG' : EpiArray.arrG (V3 m ρ) c (ix2 0 ⟨e.val, h16⟩) = x10 m c (ix1 ⟨e.val - 11, h5⟩) :=
        (congrFun eG _).trans ((row16_apply _ _).trans (bias_right _ _ ⟨e.val, h16⟩ ⟨e.val - 11, h5⟩ hq))
      unfold Result.reg Result.hidden
      simp only [hidden1 m ρ c h, eW, eB, eH', eG', hp]
    · rw [dif_neg h16]
      have h5 : e.val - 16 < 5 := by have := e.isLt; omega
      rw [EpiArray.result_box (V3 m ρ) c b ⟨r.val, hr⟩ ⟨e.val, he⟩ ⟨e.val - 16, h5⟩ (by dsimp only; omega), eP, hp]

end Cert.KernelArrays
-- ==== Proof.RefOrder.lean ====
/-
  The order of the proposals in the reference program: the indices its `top_k` gives, the tests its two gathers make on
  them, and the rows the gathers take.
-/
module

public import proofs.«01_k».proof.Proof.Gen.ReferenceIdeal.Read
public import proofs.«01_k».proof.Proof.Result
public import Idealize.ShloMosaic.Lib.WordCmp

@[expose] public section

noncomputable section

open Idealize.ShloMosaic Idealize.ShloMosaic.TcCoe Idealize.SL.Sem
open Idealize.ShloMosaic.ValueIdx

namespace Cert.RefOrder

open Cert.ReferenceIdeal Cert.ReferenceIdeal.Gen Cert.ReferenceIdeal.Read

/-! ### The indices -/

/-- Putting `k` on the last axis of a rank-2 index. -/
theorem along_one (b : Fin 2) (q k : Fin 1024) :
    Shape.Idx.along (s := S2x1024) (ix2 b q) (1 : Fin 2) k = ix2 b k := by
  funext a
  match a with
  | ⟨0, _⟩ => rfl
  | ⟨1, _⟩ => rfl

/-- The sort's comparison of the scores at two indices. -/
def above (x1 : S2x1024.Idx → EReal) (i j : S2x1024.Idx) : Bool := FloatOps.cmpfTotal (F := Ideal) (φ := .f32) .gt (x1 i) (x1 j) == 1#1

/-- It says that the first score is the greater. -/
theorem above_eq (x1 : S2x1024.Idx → EReal) (i j : S2x1024.Idx) : above x1 i j = decide (x1 j < x1 i) := by
  show (BitVec.ofBool (decide (x1 j < x1 i)) == 1#1) = _
  cases decide (x1 j < x1 i) <;> rfl

/-- THE INDICES of `top_k`: at place `r` of batch element `b`, the position that the stable descending sort puts there. -/
theorem indices_apply (x1 : S2x1024.Idx → EReal) (b : Fin 2) (r : Fin 1000) :
    val_main_indices (F := Ideal) x1 (ix2 b r) = BitVec.ofNat 32 (Result.place x1 b r).val := by
  have hr : r.val < 1024 := Nat.lt_trans r.isLt (by decide)
  show extractStridedSlice S2x1000 (fun _ => 0) (Host.sort2 S2x1024 1 (fun l r : EReal × BitVec 32 => FloatOps.cmpfTotal (F := Ideal) (φ := .f32) .gt l.1 r.1) x1
    (fun i => if hd : 1 < S2x1024.rank then iotaInDim S2x1024 32 ⟨1, hd⟩ i else 0#32)).2 sliceFits_S2x1024_S2x1000 (ix2 b r) = _
  refine (extractStridedSlice_apply _ _ _ _ (ix2 b ⟨r.val, hr⟩) fun a => ?_).trans ?_
  · match a with
    | ⟨0, _⟩ => exact (Nat.zero_add _).symm
    | ⟨1, _⟩ => exact (Nat.zero_add _).symm
  · unfold Host.sort2
    rw [dif_pos (show 1 < S2x1024.rank by decide)]
    dsimp only
    rw [dif_pos (show 1 < S2x1024.rank by decide)]
    have hs : (fun k k' : Fin 1024 => above x1 (Shape.Idx.along (s := S2x1024) (ix2 b ⟨r.val, hr⟩) (1 : Fin 2) k)
        (Shape.Idx.along (s := S2x1024) (ix2 b ⟨r.val, hr⟩) (1 : Fin 2) k')) = fun j i => decide (x1 (ix2 b i) < x1 (ix2 b j)) := by
      funext k k'
      rw [along_one, along_one]
      exact above_eq x1 _ _
    show BitVec.ofNat 32 (Shape.Idx.along (s := S2x1024) (ix2 b ⟨r.val, hr⟩) (1 : Fin 2)
      (sortedFrom (fun k k' : Fin 1024 => above x1 (Shape.Idx.along (s := S2x1024) (ix2 b ⟨r.val, hr⟩) (1 : Fin 2) k)
        (Shape.Idx.along (s := S2x1024) (ix2 b ⟨r.val, hr⟩) (1 : Fin 2) k')) ⟨r.val, hr⟩) (1 : Fin 2)).val = _
    have hp : sortedFrom (fun j i : Fin 1024 => decide (x1 (ix2 b i) < x1 (ix2 b j))) ⟨r.val, hr⟩ = Result.place x1 b r := by
      unfold Result.place Rank.pos
      rfl
    rw [hs]
    refine (congrArg (fun n : Fin 1024 => BitVec.ofNat 32 (Shape.Idx.along (s := S2x1024) (ix2 b ⟨r.val, hr⟩) (1 : Fin 2) n (1 : Fin 2)).val) hp).trans ?_
    generalize Result.place x1 b r = n
    rw [along_one]

/-! ### The tests on an index -/

/-- A position is not negative, so it is taken as it is. -/
theorem wrap (n : Nat) (hn : n < 1024) :
    Scalar.select (IntOp.cmpi .slt (BitVec.ofNat 32 n) 0#32) (IntOp.addi (BitVec.ofNat 32 n) 1024#32) (BitVec.ofNat 32 n)
      = BitVec.ofNat 32 n := by
  have h : IntOp.cmpi .slt (BitVec.ofNat 32 n) (BitVec.ofNat 32 0) = _ :=
    WordCmp.cmpi_slt_ofNat (w := 32) (by omega) (by omega)
  show Scalar.select (IntOp.cmpi .slt (BitVec.ofNat 32 n) (BitVec.ofNat 32 0)) _ _ = _
  rw [h, decide_eq_false (by omega)]
  rfl

/-- A position is in bounds. -/
theorem inside (n : Nat) (hn : n < 1024) :
    IntOp.andi (IntOp.cmpi .sge (BitVec.ofNat 32 n) 0#32) (IntOp.cmpi .sle (BitVec.ofNat 32 n) 1023#32) = 1#1 := by
  have h : IntOp.cmpi .sge (BitVec.ofNat 32 n) (BitVec.ofNat 32 0) = _ :=
    WordCmp.cmpi_sge_ofNat (w := 32) (by omega) (by omega)
  have h' : IntOp.cmpi .sle (BitVec.ofNat 32 n) (BitVec.ofNat 32 1023) = _ :=
    WordCmp.cmpi_sle_ofNat (w := 32) (by omega) (by omega)
  show IntOp.andi (IntOp.cmpi .sge (BitVec.ofNat 32 n) (BitVec.ofNat 32 0)) (IntOp.cmpi .sle (BitVec.ofNat 32 n) (BitVec.ofNat 32 1023)) = _
  rw [h, h', decide_eq_true (by omega), decide_eq_true (by omega)]
  rfl

/-- The conjunction of ones is one. -/
theorem reduce_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize (List.finRange s.numel).filter _ = l
  induction l with
  | nil => rfl
  | cons a l ih => rw [List.foldl_cons, hx]; exact ih

/-! ### The gathers -/

/-- The dimension numbers of the batched gather of rows: `[2, 1024, C]` at `[2, 1000, 1]` gives `[2, 1000, C]`. -/
abbrev rowDims (C : Nat) (wf : GatherDims.WF ⟨3, ![2, 1024, C]⟩ ⟨3, ![2, 1000, 1]⟩ ⟨3, ![2, 1000, C]⟩ [2] [1] [0] [1] [0] 2 ![1, 1, C]) :
    GatherDims ⟨3, ![2, 1024, C]⟩ ⟨3, ![2, 1000, 1]⟩ ⟨3, ![2, 1000, C]⟩ where
  offsetDims := [2]
  collapsedSliceDims := [1]
  operandBatchingDims := [0]
  startIndicesBatchingDims := [0]
  startIndexMap := [1]
  indexVectorDim := 2
  sliceSizes := ![1, 1, C]
  wf := wf

/-- That gather read at an index: row `idx[b, r, 0]` of batch element `b`, read signed and clamped. -/
theorem gather_rows_apply {C : Nat} {α : Type}
    (wf : GatherDims.WF ⟨3, ![2, 1024, C]⟩ ⟨3, ![2, 1000, 1]⟩ ⟨3, ![2, 1000, C]⟩ [2] [1] [0] [1] [0] 2 ![1, 1, C])
    (x : (⟨3, ![2, 1024, C]⟩ : Shape).Idx → α) (idx : IVec ⟨3, ![2, 1000, 1]⟩ 32) (b : Fin 2) (r : Fin 1000) (k : Fin C) (n : Fin 1024)
    (hn : min (idx (ix3 b r 0)).toInt.toNat 1023 = n.val) :
    Host.gather (rowDims C wf) x idx (ix3 b r k) = x (ix3 b n k) := by
  unfold Host.gather
  congr 1
  funext a
  refine Fin.ext ?_
  show (rowDims C wf).start (ix3 b r k) idx a + (rowDims C wf).batchCoord (ix3 b r k) a + (rowDims C wf).offCoord (ix3 b r k) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims C wf).startIndexMap from List.mem_singleton.mpr rfl)]
    have hsi : (rowDims C wf).siIdx (ix3 b r k) ⟨List.idxOf (1 : Fin 3) (rowDims C wf).startIndexMap,
        List.idxOf_lt_length_iff.2 (List.mem_singleton.mpr rfl)⟩ = ix3 b r 0 := by
      funext e; refine Fin.ext ?_
      match e with
      | ⟨0, _⟩ => rfl
      | ⟨1, _⟩ => rfl
      | ⟨2, _⟩ => rfl
    rw [hsi]
    exact hn
  · rw [GatherDims.batchCoord_eq_zero _ _ _ (fun h => by simp at h)]
    unfold GatherDims.start GatherDims.offCoord
    rw [dif_neg (show (2 : Fin 3) ∉ (rowDims C wf).startIndexMap from fun h => by simp at h),
      dif_pos (show (2 : Fin 3) ∈ (rowDims C wf).sKept from
        (GatherDims.mem_sKept _ _).mpr ⟨fun h => by simp at h, fun h => by simp at h⟩)]
    simp only [Nat.zero_add]
    rfl

/-- A position as a word, read back and clamped, is itself. -/
theorem clamp (n : Fin 1024) : min (BitVec.ofNat 32 n.val).toInt.toNat 1023 = n.val := by
  have h := n.isLt
  have e : (BitVec.ofNat 32 n.val).toInt = n.val := by
    rw [BitVec.toInt_eq_toNat_of_lt (by rw [BitVec.toNat_ofNat]; omega), BitVec.toNat_ofNat]
    congr 1
    exact Nat.mod_eq_of_lt (by omega)
  rw [e]
  simp only [Int.toNat_natCast]
  omega

/-! ### The features and the vertices taken -/

section
variable (x1 : S2x1024.Idx → EReal)

/-- The first gather's index. -/
theorem start0 (b : Fin 2) (r : Fin 1000) :
    val_main_call0_v4 (F := Ideal) x1 (ix3 b r 0) = BitVec.ofNat 32 (Result.place x1 b r).val := by
  have e : val_main_v1 (F := Ideal) x1 (ix3 b r 0) = BitVec.ofNat 32 (Result.place x1 b r).val :=
    (val_main_v1_apply (F := Ideal) x1 _).trans ((congrArg (val_main_indices (F := Ideal) x1) (show idx_main_v1 (ix3 b r 0) = ix2 b r from
      funext fun a => match a with | ⟨0, _⟩ => rfl | ⟨1, _⟩ => rfl)).trans (indices_apply x1 b r))
  rw [val_main_call0_v4_apply, val_main_call0_v1_apply, val_main_call0_v3_apply, e, val_main_call0_v0_apply, val_main_call0_v2_apply]
  exact wrap _ (Result.place x1 b r).isLt

/-- The first gather's index is in bounds. -/
theorem bounds0 (i : S2x1000x1.Idx) : val_main_call0_v10 (F := Ideal) x1 i = 1#1 := by
  obtain ⟨b, r, z, rfl⟩ : ∃ (b : Fin 2) (r : Fin 1000) (z : Fin 1), i = ix3 b r z := ⟨i 0, i 1, i 2, eq_ix3 i⟩
  obtain rfl : z = 0 := Subsingleton.elim _ _
  rw [val_main_call0_v10_apply, val_main_call0_v6_apply, val_main_call0_v9_apply, start0, val_main_call0_v5_apply, val_main_call0_v8_apply,
    val_main_call0_v7_apply]
  exact inside _ (Result.place x1 b r).isLt

/-- THE FEATURES TAKEN: at place `r`, those of the proposal that stands there. -/
theorem features (x0 : S2x1024x256x7x7.Idx → EReal) (b : Fin 2) (r : Fin 1000) (k : Fin 12544) :
    val_main_v2 (F := Ideal) x0 x1 (ix3 b r k)
      = shapeCast S2x1024x12544 x0 shapeCasts_S2x1024x256x7x7_S2x1024x12544 (ix3 b (Result.place x1 b r) k) := by
  rw [val_main_v2_apply, val_main_call0_v13_apply]
  have e : ∀ j, val_main_call0_v11 (F := Ideal) x1 j = 1#1 := fun j => by
    unfold val_main_call0_v11
    exact reduce_ones _ _ _ _ (bounds0 x1) (fun _ => rfl) j
  rw [e]
  show val_main_call0_v12 (F := Ideal) x0 x1 (ix3 b r k) = _
  unfold val_main_call0_v12
  refine gather_rows_apply _ _ _ b r k (Result.place x1 b r) ?_
  rw [start0]
  exact clamp _

/-- The second gather's index. -/
theorem start1 (b : Fin 2) (r : Fin 1000) :
    val_main_call1_v4 (F := Ideal) x1 (ix3 b r 0) = BitVec.ofNat 32 (Result.place x1 b r).val := by
  have e : val_main_v4 (F := Ideal) x1 (ix3 b r 0) = BitVec.ofNat 32 (Result.place x1 b r).val :=
    (val_main_v4_apply (F := Ideal) x1 _).trans ((congrArg (val_main_indices (F := Ideal) x1) (show idx_main_v4 (ix3 b r 0) = ix2 b r from
      funext fun a => match a with | ⟨0, _⟩ => rfl | ⟨1, _⟩ => rfl)).trans (indices_apply x1 b r))
  rw [val_main_call1_v4_apply, val_main_call1_v1_apply, val_main_call1_v3_apply, e, val_main_call1_v0_apply, val_main_call1_v2_apply]
  exact wrap _ (Result.place x1 b r).isLt

/-- The second gather's index is in bounds. -/
theorem bounds1 (i : S2x1000x1.Idx) : val_main_call1_v10 (F := Ideal) x1 i = 1#1 := by
  obtain ⟨b, r, z, rfl⟩ : ∃ (b : Fin 2) (r : Fin 1000) (z : Fin 1), i = ix3 b r z := ⟨i 0, i 1, i 2, eq_ix3 i⟩
  obtain rfl : z = 0 := Subsingleton.elim _ _
  rw [val_main_call1_v10_apply, val_main_call1_v6_apply, val_main_call1_v9_apply, start1, val_main_call1_v5_apply, val_main_call1_v8_apply,
    val_main_call1_v7_apply]
  exact inside _ (Result.place x1 b r).isLt

/-- THE VERTICES TAKEN: at place `r`, those of the proposal that stands there. -/
theorem vertices (x2 : S2x1024x4x2.Idx → EReal) (b : Fin 2) (r : Fin 1000) (d : Fin 8) :
    val_main_v5 (F := Ideal) x1 x2 (ix3 b r d)
      = shapeCast S2x1024x8 x2 shapeCasts_S2x1024x4x2_S2x1024x8 (ix3 b (Result.place x1 b r) d) := by
  rw [val_main_v5_apply, val_main_call1_v13_apply]
  have e : ∀ j, val_main_call1_v11 (F := Ideal) x1 j = 1#1 := fun j => by
    unfold val_main_call1_v11
    exact reduce_ones _ _ _ _ (bounds1 x1) (fun _ => rfl) j
  rw [e]
  show val_main_call1_v12 (F := Ideal) x1 x2 (ix3 b r d) = _
  unfold val_main_call1_v12
  refine gather_rows_apply _ _ _ b r d (Result.place x1 b r) ?_
  rw [start1]
  exact clamp _

end

end Cert.RefOrder

end
-- ==== Proof.RefValue.lean ====
/-
  What the reference program computes, read at an index: the two layers and the two heads on the proposals taken, the
  boxes of their vertices, and the columns laid side by side.
-/
module

public import proofs.«01_k».proof.Proof.RefOrder

@[expose] public section

noncomputable section

open Idealize.ShloMosaic Idealize.ShloMosaic.TcCoe Idealize.SL.Sem
open Idealize.ShloMosaic.ValueIdx

namespace Cert.RefValue

open Cert.ReferenceIdeal Cert.ReferenceIdeal.Gen Cert.ReferenceIdeal.Read

variable (x0 : S2x1024x256x7x7.Idx → EReal) (x1 : S2x1024.Idx → EReal) (x2 : S2x1024x4x2.Idx → EReal)
  (x3 : S12544x1024.Idx → EReal) (x4 : S1024.Idx → EReal) (x5 : S1024x1024.Idx → EReal) (x6 : S1024.Idx → EReal)
  (x7 : S1024x11.Idx → EReal) (x8 : S11.Idx → EReal) (x9 : S1024x5.Idx → EReal) (x10 : S5.Idx → EReal)

/-- The features with the three last axes as one. -/
abbrev feat : S2x1024x12544.Idx → EReal := shapeCast S2x1024x12544 x0 shapeCasts_S2x1024x256x7x7_S2x1024x12544

/-- The vertices as eight numbers per proposal. -/
abbrev vert : S2x1024x8.Idx → EReal := shapeCast S2x1024x8 x2 shapeCasts_S2x1024x4x2_S2x1024x8

/-! ### The layers -/

/-- The first layer's bias at an index. -/
theorem bias1 (b : Fin 2) (r : Fin 1000) (q : Fin 1024) : val_main_v9 (F := Ideal) x4 (ix3 b r q) = x4 (ix1 q) := by
  rw [val_main_v9_apply, val_main_v8_apply]
  exact congrArg x4 (funext fun a => match a with | ⟨0, _⟩ => rfl)

/-- The first layer's products at an index. -/
theorem dot1 (b : Fin 2) (r : Fin 1000) (q : Fin 1024) :
    val_main_v7 (F := Ideal) x0 x1 x3 (ix3 b r q) = ∑ k : Fin 12544, feat x0 (ix3 b (Result.place x1 b r) k) * x3 (ix2 k q) := by
  rw [val_main_v7_apply]
  refine Finset.sum_congr rfl fun k _ => ?_
  have el : lidx_main_v7 (ix3 b r q) k = ix3 b r k := funext fun a => match a with | ⟨0, _⟩ => rfl | ⟨1, _⟩ => rfl | ⟨2, _⟩ => rfl
  have er : ridx_main_v7 (ix3 b r q) k = ix2 k q := funext fun a => match a with | ⟨0, _⟩ => rfl | ⟨1, _⟩ => rfl
  rw [el, er, RefOrder.features]

/-- THE FIRST LAYER at an index. -/
theorem layer1 (b : Fin 2) (r : Fin 1000) (q : Fin 1024) :
    val_main_v11 (F := Ideal) x0 x1 x3 x4 (ix3 b r q)
      = Spec.layer (fun k : Fin 12544 => feat x0 (ix3 b (Result.place x1 b r) k)) (fun k q => x3 (ix2 k q)) (fun q : Fin 1024 => x4 (ix1 q)) q := by
  rw [val_main_v11_apply, val_main_v10_apply, dot1, bias1, val_main_call2_v0_apply]
  show max (_ + _) (Ideal.ofBits .f32 0x00000000#32) = _
  rw [Ideal.ofBits_zero_f32]
  rfl

/-- The second layer's bias at an index. -/
theorem bias2 (b : Fin 2) (r : Fin 1000) (q : Fin 1024) : val_main_v14 (F := Ideal) x6 (ix3 b r q) = x6 (ix1 q) := by
  rw [val_main_v14_apply, val_main_v13_apply]
  exact congrArg x6 (funext fun a => match a with | ⟨0, _⟩ => rfl)

/-- THE SECOND LAYER at an index. -/
theorem layer2 (b : Fin 2) (r : Fin 1000) (q : Fin 1024) :
    val_main_v16 (F := Ideal) x0 x1 x3 x4 x5 x6 (ix3 b r q)
      = Result.hidden (feat x0) x3 x4 x5 x6 b (Result.place x1 b r) q := by
  have hd : val_main_v12 (F := Ideal) x0 x1 x3 x4 x5 (ix3 b r q)
      = ∑ k : Fin 1024, Spec.layer (fun k : Fin 12544 => feat x0 (ix3 b (Result.place x1 b r) k)) (fun k q => x3 (ix2 k q)) (fun q : Fin 1024 => x4 (ix1 q)) k
          * x5 (ix2 k q) := by
    rw [val_main_v12_apply]
    refine Finset.sum_congr rfl fun k _ => ?_
    have el : lidx_main_v12 (ix3 b r q) k = ix3 b r k := funext fun a => match a with | ⟨0, _⟩ => rfl | ⟨1, _⟩ => rfl | ⟨2, _⟩ => rfl
    have er : ridx_main_v12 (ix3 b r q) k = ix2 k q := funext fun a => match a with | ⟨0, _⟩ => rfl | ⟨1, _⟩ => rfl
    rw [el, er, layer1]
  rw [val_main_v16_apply, val_main_v15_apply, hd, bias2, val_main_call3_v0_apply]
  show max (_ + _) (Ideal.ofBits .f32 0x00000000#32) = _
  rw [Ideal.ofBits_zero_f32]
  rfl

/-! ### The heads -/

/-- THE CLASS SCORES at an index. -/
theorem classes (b : Fin 2) (r : Fin 1000) (e : Fin 11) :
    val_main_v20 (F := Ideal) x0 x1 x3 x4 x5 x6 x7 x8 (ix3 b r e)
      = Result.cls x7 x8 (Result.hidden (feat x0) x3 x4 x5 x6 b (Result.place x1 b r)) e := by
  have hd : val_main_v17 (F := Ideal) x0 x1 x3 x4 x5 x6 x7 (ix3 b r e)
      = ∑ k : Fin 1024, Result.hidden (feat x0) x3 x4 x5 x6 b (Result.place x1 b r) k * x7 (ix2 k e) := by
    rw [val_main_v17_apply]
    refine Finset.sum_congr rfl fun k _ => ?_
    have el : lidx_main_v17 (ix3 b r e) k = ix3 b r k := funext fun a => match a with | ⟨0, _⟩ => rfl | ⟨1, _⟩ => rfl | ⟨2, _⟩ => rfl
    have er : ridx_main_v17 (ix3 b r e) k = ix2 k e := funext fun a => match a with | ⟨0, _⟩ => rfl | ⟨1, _⟩ => rfl
    rw [el, er, layer2]
  have hb : val_main_v19 (F := Ideal) x8 (ix3 b r e) = x8 (ix1 e) := by
    rw [val_main_v19_apply, val_main_v18_apply]
    exact congrArg x8 (funext fun a => match a with | ⟨0, _⟩ => rfl)
  rw [val_main_v20_apply, hd, hb]
  rfl

/-- THE REGRESSION at an index. -/
theorem regression (b : Fin 2) (r : Fin 1000) (e : Fin 5) :
    val_main_v24 (F := Ideal) x0 x1 x3 x4 x5 x6 x9 x10 (ix3 b r e)
      = Result.reg x9 x10 (Result.hidden (feat x0) x3 x4 x5 x6 b (Result.place x1 b r)) e := by
  have hd : val_main_v21 (F := Ideal) x0 x1 x3 x4 x5 x6 x9 (ix3 b r e)
      = ∑ k : Fin 1024, Result.hidden (feat x0) x3 x4 x5 x6 b (Result.place x1 b r) k * x9 (ix2 k e) := by
    rw [val_main_v21_apply]
    refine Finset.sum_congr rfl fun k _ => ?_
    have el : lidx_main_v21 (ix3 b r e) k = ix3 b r k := funext fun a => match a with | ⟨0, _⟩ => rfl | ⟨1, _⟩ => rfl | ⟨2, _⟩ => rfl
    have er : ridx_main_v21 (ix3 b r e) k = ix2 k e := funext fun a => match a with | ⟨0, _⟩ => rfl | ⟨1, _⟩ => rfl
    rw [el, er, layer2]
  have hb : val_main_v23 (F := Ideal) x10 (ix3 b r e) = x10 (ix1 e) := by
    rw [val_main_v23_apply, val_main_v22_apply]
    exact congrArg x10 (funext fun a => match a with | ⟨0, _⟩ => rfl)
  rw [val_main_v24_apply, hd, hb]
  rfl

/-! ### The boxes -/

/-- The eight numbers of the proposal at place `r`. -/
abbrev corners (b : Fin 2) (r : Fin 1000) (d : Fin 8) : EReal := vert x2 (ix3 b (Result.place x1 b r) d)

/-- Coordinate `c` of vertex `p` is number `2·p + c`. -/
theorem corner (b : Fin 2) (r : Fin 1000) (p : Fin 4) (c : Fin 2) (d : Fin 8) (hd : d.val = 2 * p.val + c.val) :
    val_main_v6 (F := Ideal) x1 x2 (ix4 b r p c) = corners x1 x2 b r d := by
  unfold val_main_v6
  refine (shapeCast_apply _ _ _ (ix3 b r d) ?_).trans (RefOrder.vertices x1 x2 b r d)
  rw [Shape.rowMajor_val_three, Shape.rowMajor_val_four]
  show (b.val * 1000 + r.val) * 8 + d.val = ((b.val * 1000 + r.val) * 4 + p.val) * 2 + c.val
  omega

/-- A unit axis dropped. -/
theorem squeeze (y : S2x1000x1x2.Idx → EReal) (b : Fin 2) (r : Fin 1000) (c : Fin 2) :
    shapeCast S2x1000x2 y shapeCasts_S2x1000x1x2_S2x1000x2 (ix3 b r c) = y (ix4 b r 0 c) :=
  shapeCast_apply _ _ _ (ix4 b r 0 c) (by
    rw [Shape.rowMajor_val_three, Shape.rowMajor_val_four]
    show ((b.val * 1000 + r.val) * 1 + 0) * 2 + c.val = (b.val * 1000 + r.val) * 2 + c.val
    omega)

/-- A unit axis at the end dropped. -/
theorem squeeze_last (y : S2x1000x1.Idx → EReal) (b : Fin 2) (r : Fin 1000) :
    shapeCast S2x1000 y shapeCasts_S2x1000x1_S2x1000 (ix2 b r) = y (ix3 b r 0) :=
  shapeCast_apply _ _ _ (ix3 b r 0) (by
    rw [Shape.rowMajor_val_three, Shape.rowMajor_val_two]
    show (b.val * 1000 + r.val) * 1 + 0 = b.val * 1000 + r.val
    omega)

/-- The first edge: vertex 1 less vertex 0. -/
theorem edge1 (b : Fin 2) (r : Fin 1000) (c : Fin 2) (d e : Fin 8) (hd : d.val = 2 + c.val) (he : e.val = c.val) :
    val_main_v32 (F := Ideal) x1 x2 (ix3 b r c) = corners x1 x2 b r d - corners x1 x2 b r e := by
  have h1 : val_main_v29 (F := Ideal) x1 x2 (ix3 b r c) = corners x1 x2 b r d := by
    unfold val_main_v29
    rw [squeeze, val_main_v28_apply, show idx_main_v28 (ix4 b r 0 c) = ix4 b r 1 c from
      funext fun a => match a with | ⟨0, _⟩ => rfl | ⟨1, _⟩ => rfl | ⟨2, _⟩ => rfl | ⟨3, _⟩ => rfl]
    exact corner x1 x2 b r 1 c d (by rw [hd]; rfl)
  have h0 : val_main_v31 (F := Ideal) x1 x2 (ix3 b r c) = corners x1 x2 b r e := by
    unfold val_main_v31
    rw [squeeze, val_main_v30_apply, show idx_main_v30 (ix4 b r 0 c) = ix4 b r 0 c from
      funext fun a => match a with | ⟨0, _⟩ => rfl | ⟨1, _⟩ => rfl | ⟨2, _⟩ => rfl | ⟨3, _⟩ => rfl]
    exact corner x1 x2 b r 0 c e (by rw [he]; exact (Nat.zero_add _).symm)
  rw [val_main_v32_apply, h1, h0]
  rfl

/-- The second edge: vertex 2 less vertex 1. -/
theorem edge2 (b : Fin 2) (r : Fin 1000) (c : Fin 2) (d e : Fin 8) (hd : d.val = 4 + c.val) (he : e.val = 2 + c.val) :
    val_main_v37 (F := Ideal) x1 x2 (ix3 b r c) = corners x1 x2 b r d - corners x1 x2 b r e := by
  have h1 : val_main_v34 (F := Ideal) x1 x2 (ix3 b r c) = corners x1 x2 b r d := by
    unfold val_main_v34
    rw [squeeze, val_main_v33_apply, show idx_main_v33 (ix4 b r 0 c) = ix4 b r 2 c from
      funext fun a => match a with | ⟨0, _⟩ => rfl | ⟨1, _⟩ => rfl | ⟨2, _⟩ => rfl | ⟨3, _⟩ => rfl]
    exact corner x1 x2 b r 2 c d (by rw [hd]; rfl)
  have h0 : val_main_v36 (F := Ideal) x1 x2 (ix3 b r c) = corners x1 x2 b r e := by
    unfold val_main_v36
    rw [squeeze, val_main_v35_apply, show idx_main_v35 (ix4 b r 0 c) = ix4 b r 1 c from
      funext fun a => match a with | ⟨0, _⟩ => rfl | ⟨1, _⟩ => rfl | ⟨2, _⟩ => rfl | ⟨3, _⟩ => rfl]
    exact corner x1 x2 b r 1 c e (by rw [he]; rfl)
  rw [val_main_v37_apply, h1, h0]
  rfl

/-- The word of four is four. -/
theorem word_four : Ideal.ofBits .f32 0x40800000#32 = ((4 : ℝ) : EReal) := by
  simp [Ideal.ofBits, Ideal.ieee, -EReal.coe_mul]; norm_num

/-- The word of a quarter is a quarter. -/
theorem word_quarter : Ideal.ofBits .f32 0x3E800000#32 = ((1 / 4 : ℝ) : EReal) := by
  simp [Ideal.ofBits, Ideal.ieee, -EReal.coe_mul]; norm_num

/-- THE CENTRE: the mean of the four vertices. -/
theorem centre_eq (b : Fin 2) (r : Fin 1000) (c : Fin 2) (d0 d1 d2 d3 : Fin 8) (h0 : d0.val = c.val) (h1 : d1.val = 2 + c.val)
    (h2 : d2.val = 4 + c.val) (h3 : d3.val = 6 + c.val) :
    val_main_v27 (F := Ideal) x1 x2 (ix3 b r c)
      = Spec.centre (corners x1 x2 b r d0) (corners x1 x2 b r d1) (corners x1 x2 b r d2) (corners x1 x2 b r d3) := by
  have hi : ∀ p : Fin 4, idx_main_v25 (ix3 b r c) p = ix4 b r p c := fun p =>
    funext fun a => match a with | ⟨0, _⟩ => rfl | ⟨1, _⟩ => rfl | ⟨2, _⟩ => rfl | ⟨3, _⟩ => rfl
  have hs : val_main_v25 (F := Ideal) x1 x2 (ix3 b r c)
      = corners x1 x2 b r d0 + corners x1 x2 b r d1 + corners x1 x2 b r d2 + corners x1 x2 b r d3 := by
    rw [val_main_v25_apply, Fin.sum_univ_four, hi, hi, hi, hi, corner x1 x2 b r 0 c d0 (by rw [h0]; exact (Nat.zero_add _).symm),
      corner x1 x2 b r 1 c d1 (by rw [h1]; rfl), corner x1 x2 b r 2 c d2 (by rw [h2]; rfl), corner x1 x2 b r 3 c d3 (by rw [h3]; rfl)]
    show Ideal.ofBits .f32 0x00000000#32 + _ = _
    rw [Ideal.ofBits_zero_f32, zero_add]
  rw [val_main_v27_apply, hs, val_main_v26_apply]
  show Ideal.div _ (Ideal.ofBits .f32 0x40800000#32) = _ * Ideal.ofBits .f32 0x3E800000#32
  rw [word_four, word_quarter, Ideal.div_coe (by norm_num)]

/-- THE WIDTH: the length of the first edge. -/
theorem width_eq (b : Fin 2) (r : Fin 1000) :
    val_main_v42 (F := Ideal) x1 x2 (ix2 b r)
      = Spec.side (corners x1 x2 b r 0) (corners x1 x2 b r 1) (corners x1 x2 b r 2) (corners x1 x2 b r 3) := by
  have hi : ∀ c : Fin 2, idx_main_v39 (ix2 b r) c = ix3 b r c := fun c =>
    funext fun a => match a with | ⟨0, _⟩ => rfl | ⟨1, _⟩ => rfl | ⟨2, _⟩ => rfl
  rw [val_main_v42_apply, val_main_v41_apply, val_main_v39_apply, Fin.sum_univ_two, hi, hi, val_main_v38_apply, val_main_v38_apply,
    edge1 x1 x2 b r 0 2 0 rfl rfl, edge1 x1 x2 b r 1 3 1 rfl rfl, val_main_v40_apply]
  show Ideal.sqrt (Ideal.ofBits .f32 0x00000000#32 + _ + Ideal.ofBits .f32 0x322BCC77#32) = _
  rw [Ideal.ofBits_zero_f32, zero_add]
  rfl

/-- THE HEIGHT: the length of the second edge. -/
theorem height_eq (b : Fin 2) (r : Fin 1000) :
    val_main_v47 (F := Ideal) x1 x2 (ix2 b r)
      = Spec.side (corners x1 x2 b r 2) (corners x1 x2 b r 3) (corners x1 x2 b r 4) (corners x1 x2 b r 5) := by
  have hi : ∀ c : Fin 2, idx_main_v44 (ix2 b r) c = ix3 b r c := fun c =>
    funext fun a => match a with | ⟨0, _⟩ => rfl | ⟨1, _⟩ => rfl | ⟨2, _⟩ => rfl
  rw [val_main_v47_apply, val_main_v46_apply, val_main_v44_apply, Fin.sum_univ_two, hi, hi, val_main_v43_apply, val_main_v43_apply,
    edge2 x1 x2 b r 0 4 2 rfl rfl, edge2 x1 x2 b r 1 5 3 rfl rfl, val_main_v45_apply]
  show Ideal.sqrt (Ideal.ofBits .f32 0x00000000#32 + _ + Ideal.ofBits .f32 0x322BCC77#32) = _
  rw [Ideal.ofBits_zero_f32, zero_add]
  rfl

/-- THE ANGLE of the first edge. -/
theorem angle_eq (b : Fin 2) (r : Fin 1000) :
    val_main_v52 (F := Ideal) x1 x2 (ix2 b r)
      = Spec.angle (corners x1 x2 b r 0) (corners x1 x2 b r 1) (corners x1 x2 b r 2) (corners x1 x2 b r 3) := by
  have hy : val_main_v49 (F := Ideal) x1 x2 (ix2 b r) = corners x1 x2 b r 3 - corners x1 x2 b r 1 := by
    unfold val_main_v49
    rw [squeeze_last, val_main_v48_apply, show idx_main_v48 (ix3 b r 0) = ix3 b r 1 from
      funext fun a => match a with | ⟨0, _⟩ => rfl | ⟨1, _⟩ => rfl | ⟨2, _⟩ => rfl]
    exact edge1 x1 x2 b r 1 3 1 rfl rfl
  have hx : val_main_v51 (F := Ideal) x1 x2 (ix2 b r) = corners x1 x2 b r 2 - corners x1 x2 b r 0 := by
    unfold val_main_v51
    rw [squeeze_last, val_main_v50_apply, show idx_main_v50 (ix3 b r 0) = ix3 b r 0 from
      funext fun a => match a with | ⟨0, _⟩ => rfl | ⟨1, _⟩ => rfl | ⟨2, _⟩ => rfl]
    exact edge1 x1 x2 b r 0 2 0 rfl rfl
  rw [val_main_v52_apply, hy, hx]
  rfl

/-- THE BOXES at an index. -/
theorem boxes (b : Fin 2) (r : Fin 1000) (q : Fin 5) :
    val_main_v56 (F := Ideal) x1 x2 (ix3 b r q) = Spec.box (corners x1 x2 b r) q := by
  unfold val_main_v56
  generalize hc : val_main_v27 (F := Ideal) x1 x2 = y0
  generalize hw : val_main_v53 (F := Ideal) x1 x2 = y1
  generalize hh : val_main_v54 (F := Ideal) x1 x2 = y2
  generalize ha : val_main_v55 (F := Ideal) x1 x2 = y3
  have len : ∀ k : Fin 4, k.val < [(⟨S2x1000x2, y0⟩ : (s : Shape) × (s.Idx → EReal)), ⟨S2x1000x1, y1⟩, ⟨S2x1000x1, y2⟩, ⟨S2x1000x1, y3⟩].length :=
    fun k => k.isLt
  have off : ∀ {n : Nat} (i : Fin n) (q : Fin 5) (d : Fin 3), d ≠ (2 : Fin 3) →
      ((ix3 b r i : (⟨3, ![2, 1000, n]⟩ : Shape).Idx) d).val = ((ix3 b r q : S2x1000x5.Idx) d).val := by
    intro n i q d hd
    match d with
    | ⟨0, _⟩ => rfl
    | ⟨1, _⟩ => rfl
    | ⟨2, _⟩ => exact absurd rfl hd
  match q with
  | ⟨0, _⟩ =>
    refine (concatenate_apply_piece (t := S2x1000x5) 2 _ _ (ix3 b r (0 : Fin 5)) 0 (len 0) S2x1000x2 y0 rfl rfl 0 rfl (ix3 b r 0) (fun d hd => off _ _ d hd) rfl).trans ?_
    rw [← hc]
    exact centre_eq x1 x2 b r 0 0 2 4 6 rfl rfl rfl rfl
  | ⟨1, _⟩ =>
    refine (concatenate_apply_piece (t := S2x1000x5) 2 _ _ (ix3 b r (1 : Fin 5)) 0 (len 0) S2x1000x2 y0 rfl rfl 0 rfl (ix3 b r 1) (fun d hd => off _ _ d hd) rfl).trans ?_
    rw [← hc]
    exact centre_eq x1 x2 b r 1 1 3 5 7 rfl rfl rfl rfl
  | ⟨2, _⟩ =>
    refine (concatenate_apply_piece (t := S2x1000x5) 2 _ _ (ix3 b r (2 : Fin 5)) 1 (len 1) S2x1000x1 y1 rfl rfl 2 rfl (ix3 b r 0) (fun d hd => off _ _ d hd) rfl).trans ?_
    rw [← hw, val_main_v53_apply]
    refine (congrArg _ ?_).trans (width_eq x1 x2 b r)
    exact funext fun a => match a with | ⟨0, _⟩ => rfl | ⟨1, _⟩ => rfl
  | ⟨3, _⟩ =>
    refine (concatenate_apply_piece (t := S2x1000x5) 2 _ _ (ix3 b r (3 : Fin 5)) 2 (len 2) S2x1000x1 y2 rfl rfl 3 rfl (ix3 b r 0) (fun d hd => off _ _ d hd) rfl).trans ?_
    rw [← hh, val_main_v54_apply]
    refine (congrArg _ ?_).trans (height_eq x1 x2 b r)
    exact funext fun a => match a with | ⟨0, _⟩ => rfl | ⟨1, _⟩ => rfl
  | ⟨4, _⟩ =>
    refine (concatenate_apply_piece (t := S2x1000x5) 2 _ _ (ix3 b r (4 : Fin 5)) 3 (len 3) S2x1000x1 y3 rfl rfl 4 rfl (ix3 b r 0) (fun d hd => off _ _ d hd) rfl).trans ?_
    rw [← ha, val_main_v55_apply]
    refine (congrArg _ ?_).trans (angle_eq x1 x2 b r)
    exact funext fun a => match a with | ⟨0, _⟩ => rfl | ⟨1, _⟩ => rfl

/-! ### The result -/

/-- THE REFERENCE'S RESULT at an index. -/
theorem value (b : Fin 2) (r : Fin 1000) (e : Fin 21) :
    val_main_v57 (F := Ideal) x0 x1 x2 x3 x4 x5 x6 x7 x8 x9 x10 (ix3 b r e)
      = Result.out (feat x0) x1 (vert x2) x3 x4 x5 x6 x7 x8 x9 x10 b r e := by
  unfold val_main_v57
  generalize h0 : val_main_v20 (F := Ideal) x0 x1 x3 x4 x5 x6 x7 x8 = y0
  generalize h1 : val_main_v24 (F := Ideal) x0 x1 x3 x4 x5 x6 x9 x10 = y1
  generalize h2 : val_main_v56 (F := Ideal) x1 x2 = y2
  have len : ∀ k : Fin 3, k.val < [(⟨S2x1000x11, y0⟩ : (s : Shape) × (s.Idx → EReal)), ⟨S2x1000x5, y1⟩, ⟨S2x1000x5, y2⟩].length :=
    fun k => k.isLt
  have off : ∀ {n : Nat} (i : Fin n) (d : Fin 3), d ≠ (2 : Fin 3) →
      ((ix3 b r i : (⟨3, ![2, 1000, n]⟩ : Shape).Idx) d).val = ((ix3 b r e : S2x1000x21.Idx) d).val := by
    intro n i d hd
    match d with
    | ⟨0, _⟩ => rfl
    | ⟨1, _⟩ => rfl
    | ⟨2, _⟩ => exact absurd rfl hd
  unfold Result.out
  by_cases h11 : e.val < 11
  · rw [dif_pos h11]
    refine (concatenate_apply_piece (t := S2x1000x21) 2 _ _ (ix3 b r e) 0 (len 0) S2x1000x11 y0 rfl rfl 0 rfl (ix3 b r ⟨e.val, h11⟩)
      (fun d hd => off _ d hd) (Nat.zero_add _)).trans ?_
    rw [← h0]
    exact classes x0 x1 x3 x4 x5 x6 x7 x8 b r ⟨e.val, h11⟩
  · rw [dif_neg h11]
    by_cases h16 : e.val < 16
    · rw [dif_pos h16]
      have h5 : e.val - 11 < 5 := by omega
      refine (concatenate_apply_piece (t := S2x1000x21) 2 _ _ (ix3 b r e) 1 (len 1) S2x1000x5 y1 rfl rfl 11 rfl (ix3 b r ⟨e.val - 11, h5⟩)
        (fun d hd => off _ d hd) (show 11 + (e.val - 11) = e.val by omega)).trans ?_
      rw [← h1]
      exact regression x0 x1 x3 x4 x5 x6 x9 x10 b r ⟨e.val - 11, h5⟩
    · rw [dif_neg h16]
      have h5 : e.val - 16 < 5 := by have := e.isLt; omega
      refine (concatenate_apply_piece (t := S2x1000x21) 2 _ _ (ix3 b r e) 2 (len 2) S2x1000x5 y2 rfl rfl 16 rfl (ix3 b r ⟨e.val - 16, h5⟩)
        (fun d hd => off _ d hd) (show 16 + (e.val - 16) = e.val by omega)).trans ?_
      rw [← h2]
      exact boxes x1 x2 b r ⟨e.val - 16, h5⟩

end Cert.RefValue

end
-- ==== Proof.Equation.lean ====
/-
  The equation: on equal arguments the array the kernel returns and the array the reference returns are the same.
-/
module

public import proofs.«01_k».proof.Proof.KernelArrays
public import proofs.«01_k».proof.Proof.RefValue

@[expose] public section

noncomputable section

open Idealize.ShloMosaic hiding ix1 ix2 ix3 ix4 ix5 eq_ix3
open Idealize.ShloMosaic.TcCoe Idealize.SL.Sem
open Idealize.ShloMosaic.ValueIdx

namespace Cert.Equation

/-- The reference's result on the kernel's arguments is what the kernel returns, at every index. -/
theorem same (m : (ℓ : Loc KernelIdeal.nD KernelIdeal.τ KernelIdeal.sig) → Buf (Elt Ideal) ℓ) (ρ : Dev KernelIdeal.nD → PrngReg)
    (c : Dev KernelIdeal.nD) :
    ReferenceIdeal.Read.val_main_v57 (F := Ideal) (KernelArrays.x0 m c) (KernelArrays.x1 m c) (KernelArrays.x2 m c) (KernelArrays.x3 m c)
        (KernelArrays.x4 m c) (KernelArrays.x5 m c) (KernelArrays.x6 m c) (KernelArrays.x7 m c) (KernelArrays.x8 m c)
        (KernelArrays.x9 m c) (KernelArrays.x10 m c)
      = (KernelIdeal.Gen.W5 m ρ c (Proc.devRef .tc KernelIdeal.main_v10) : KernelIdeal.S2x1000x21.Idx → EReal) := by
  funext i
  obtain ⟨b, r, e, rfl⟩ : ∃ (b : Fin 2) (r : Fin 1000) (e : Fin 21), i = ix3 b r e := ⟨i 0, i 1, i 2, eq_ix3 i⟩
  exact (RefValue.value _ _ _ _ _ _ _ _ _ _ _ b r e).trans
    (KernelArrays.value m ρ c ReferenceIdeal.Gen.facts.shapeCasts_S2x1024x256x7x7_S2x1024x12544 b r e).symm

end Cert.Equation

end
-- ==== Proof.lean ====
/-
  The certificate of the detector's region head, assembled.  The kernel and its idealized form run to the end and keep
  their arguments (`frame_kernel`, `frame_kernelIdeal`), and so does the reference (`frame_referenceIdeal`).  On equal
  arguments the idealized kernel and the reference return the same array (`value`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's frame: it terminates, keeps its arguments and ends with every counter at zero. -/
theorem frame_kernel : Cert.quiescent_Kernel := fun m ρ _ => Cert.Kernel.Gen.frame m ρ

/-- The idealized kernel's frame, by the same run. -/
theorem frame_kernelIdeal : Cert.quiescent_KernelIdeal := fun m ρ _ => Cert.KernelIdeal.Gen.frame m ρ

/-- The reference's frame: a straight line of host operations, with no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE VALUE CLAIM: on equal arguments both programs end with the same result, and keep their arguments. -/
theorem value : Cert.algebraic_KernelIdeal_ReferenceIdeal := by
  intro m ρ m' ρ' _ hargs
  refine ⟨fun c => Cert.KernelIdeal.Gen.W5 m ρ c (Proc.devRef .tc Cert.KernelIdeal.main_v10), Cert.KernelValue.run (F := Ideal) m ρ,
    (θ_run Cert.ReferenceIdeal.defs _ _).mono (fun r h c => ⟨(h c).1.trans ?_, (h c).2⟩)
      (Cert.ReferenceIdeal.Value.run (F := Ideal) m' ρ')⟩
  obtain ⟨h0, h1, h2, h3, h4, h5, h6, h7, h8, h9, h10⟩ := hargs c
  rw [Cert.ReferenceIdeal.Read.val_main_v57_eq, h0, h1, h2, h3, h4, h5, h6, h7, h8, h9, h10]
  exact Cert.Equation.same m ρ c

/-- Everything this certificate claims. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
